-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v16_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x512x8 : Shape := ⟨3, ![64, 512, 8]⟩
abbrev S_ : Shape := ⟨0, ![]⟩

class Facts : Prop where
  bcast_S_S64x512x8 : S_.BroadcastsInDim S64x512x8 (![] : Fin 0 → Fin S64x512x8.rank)
  reducesTo_S64x512x8_S_d0_1_2 : S64x512x8.ReducesTo [0, 1, 2] S_
  h_S_ : 0 < S_.numel

variable [Facts]

def fn {F : FTy → Type} [FloatOps F] (main_arg0 : FVec F S64x512x8 .f32) (main_arg1 : FVec F S64x512x8 .f32) : IVec S_ 1 :=
  let main_v0 : FVec F S64x512x8 .f32 := Host.absf main_arg0
  let main_cst : FVec F S_ .f32 := constant S_ .f32 0x7F800000#32
  let main_v1 : FVec F S64x512x8 .f32 := broadcastInDim S64x512x8 ![] bcast_S_S64x512x8 main_cst
  let main_v2 : IVec S64x512x8 1 := cmpf .olt main_v0 main_v1
  let main_c : IVec S_ 1 := constantI S_ 1 1#1
  let main_v3 : IVec S_ 1 := (fun x v => Host.reduce IntOp.andi x v reducesTo_S64x512x8_S_d0_1_2 h_S_) main_v2 main_c
  let main_v4 : FVec F S64x512x8 .f32 := Host.absf main_arg1
  let main_cst_0 : FVec F S_ .f32 := constant S_ .f32 0x7F800000#32
  let main_v5 : FVec F S64x512x8 .f32 := broadcastInDim S64x512x8 ![] bcast_S_S64x512x8 main_cst_0
  let main_v6 : IVec S64x512x8 1 := cmpf .olt main_v4 main_v5
  let main_c_1 : IVec S_ 1 := constantI S_ 1 1#1
  let main_v7 : IVec S_ 1 := (fun x v => Host.reduce IntOp.andi x v reducesTo_S64x512x8_S_d0_1_2 h_S_) main_v6 main_c_1
  let main_v8 : IVec S_ 1 := andi main_v3 main_v7
  main_v8
-- ==== Kernel.lean ====
abbrev S64x512x8 : Shape := ⟨3, ![64, 512, 8]⟩
abbrev S64x512x512 : Shape := ⟨3, ![64, 512, 512]⟩
abbrev S4x512x8 : Shape := ⟨3, ![4, 512, 8]⟩
abbrev S4x512x512 : Shape := ⟨3, ![4, 512, 512]⟩
abbrev S1x512x8 : Shape := ⟨3, ![1, 512, 8]⟩
abbrev S512x8 : Shape := ⟨2, ![512, 8]⟩
abbrev S512 : Shape := ⟨1, ![512]⟩
abbrev S512x1 : Shape := ⟨2, ![512, 1]⟩
abbrev S512x10 : Shape := ⟨2, ![512, 10]⟩
abbrev S512x512 : Shape := ⟨2, ![512, 512]⟩
abbrev S1x512x512 : Shape := ⟨3, ![1, 512, 512]⟩
abbrev S512x64x512 : Shape := ⟨3, ![512, 64, 512]⟩
abbrev S_ : Shape := ⟨0, ![]⟩
abbrev S544x64x512 : Shape := ⟨3, ![544, 64, 512]⟩
abbrev S544x64x514 : Shape := ⟨3, ![544, 64, 514]⟩
abbrev S16x64x128 : Shape := ⟨3, ![16, 64, 128]⟩
abbrev S16x64x514 : Shape := ⟨3, ![16, 64, 514]⟩
abbrev S64x256 : Shape := ⟨2, ![64, 256]⟩
abbrev S64x128 : Shape := ⟨2, ![64, 128]⟩
abbrev S1x64x128 : Shape := ⟨3, ![1, 64, 128]⟩
abbrev S64x1 : Shape := ⟨2, ![64, 1]⟩
abbrev S64x255 : Shape := ⟨2, ![64, 255]⟩
abbrev S64x2 : Shape := ⟨2, ![64, 2]⟩
abbrev S64x254 : Shape := ⟨2, ![64, 254]⟩
abbrev S64x3 : Shape := ⟨2, ![64, 3]⟩
abbrev S64x253 : Shape := ⟨2, ![64, 253]⟩
abbrev S64x4 : Shape := ⟨2, ![64, 4]⟩
abbrev S64x252 : Shape := ⟨2, ![64, 252]⟩
abbrev S64x8 : Shape := ⟨2, ![64, 8]⟩
abbrev S64x248 : Shape := ⟨2, ![64, 248]⟩
abbrev S64x12 : Shape := ⟨2, ![64, 12]⟩
abbrev S64x244 : Shape := ⟨2, ![64, 244]⟩
abbrev S64x16 : Shape := ⟨2, ![64, 16]⟩
abbrev S64x240 : Shape := ⟨2, ![64, 240]⟩
abbrev S64x32 : Shape := ⟨2, ![64, 32]⟩
abbrev S64x224 : Shape := ⟨2, ![64, 224]⟩
abbrev S64x48 : Shape := ⟨2, ![64, 48]⟩
abbrev S64x208 : Shape := ⟨2, ![64, 208]⟩
abbrev S64x64 : Shape := ⟨2, ![64, 64]⟩
abbrev S64x192 : Shape := ⟨2, ![64, 192]⟩
abbrev S64x514 : Shape := ⟨2, ![64, 514]⟩
abbrev S1x64x514 : Shape := ⟨3, ![1, 64, 514]⟩
abbrev S514x64x514 : Shape := ⟨3, ![514, 64, 514]⟩
abbrev S64x514x514 : Shape := ⟨3, ![64, 514, 514]⟩
abbrev S64x1x1 : Shape := ⟨3, ![64, 1, 1]⟩
abbrev S64 : Shape := ⟨1, ![64]⟩

abbrev nBuf : Space → Nat
  | .hbm => 12
  | .vmem => 13
  | .smem => 0
  | _ => 0

abbrev bufTy : (tb : Table) → Fin (tcTables nBuf tb) → BufTy
  | .hbm, ⟨0, _⟩ => ⟨S64x512x8, .f32⟩
  | .hbm, ⟨1, _⟩ => ⟨S64x512x8, .f32⟩
  | .hbm, ⟨2, _⟩ => ⟨S64x512x512, .bf16⟩
  | .hbm, ⟨3, _⟩ => ⟨S512x64x512, .bf16⟩
  | .hbm, ⟨4, _⟩ => ⟨S_, .i32⟩
  | .hbm, ⟨5, _⟩ => ⟨S_, .bf16⟩
  | .hbm, ⟨6, _⟩ => ⟨S544x64x512, .bf16⟩
  | .hbm, ⟨7, _⟩ => ⟨S544x64x514, .f32⟩
  | .hbm, ⟨8, _⟩ => ⟨S514x64x514, .f32⟩
  | .hbm, ⟨9, _⟩ => ⟨S64x514x514, .f32⟩
  | .hbm, ⟨10, _⟩ => ⟨S64x1x1, .f32⟩
  | .hbm, ⟨11, _⟩ => ⟨S64, .f32⟩
  | .local _ .vmem, ⟨0, _⟩ => ⟨S4x512x8, .f32⟩
  | .local _ .vmem, ⟨1, _⟩ => ⟨S4x512x8, .f32⟩
  | .local _ .vmem, ⟨2, _⟩ => ⟨S4x512x8, .f32⟩
  | .local _ .vmem, ⟨3, _⟩ => ⟨S4x512x8, .f32⟩
  | .local _ .vmem, ⟨4, _⟩ => ⟨S4x512x512, .bf16⟩
  | .local _ .vmem, ⟨5, _⟩ => ⟨S4x512x512, .bf16⟩
  | .local _ .vmem, ⟨6, _⟩ => ⟨S16x64x128, .bf16⟩
  | .local _ .vmem, ⟨7, _⟩ => ⟨S16x64x128, .bf16⟩
  | .local _ .vmem, ⟨8, _⟩ => ⟨S16x64x128, .bf16⟩
  | .local _ .vmem, ⟨9, _⟩ => ⟨S16x64x128, .bf16⟩
  | .local _ .vmem, ⟨10, _⟩ => ⟨S16x64x514, .f32⟩
  | .local _ .vmem, ⟨11, _⟩ => ⟨S16x64x514, .f32⟩
  | .local _ .vmem, ⟨12, _⟩ => ⟨S64x256, .f32⟩
  | _, _ => ⟨S64x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![34], ![false]⟩

def cc1_transform_0 (i : grid1.Coords) : Fin 3 → Nat :=
  let arg0 : BitVec 32 := BitVec.ofNat 32 (i 0).val
  let c16_i32 : BitVec 32 := 16#32
  let v0 : BitVec 32 := Scalar.muli c16_i32 arg0
  let c52_i32 : BitVec 32 := 52#32
  let v1 : BitVec 32 := Scalar.subi v0 c52_i32
  let c128_i32 : BitVec 32 := 128#32
  let v2 : BitVec 32 := Scalar.divsi v1 c128_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c2_i32 : BitVec 32 := 2#32
  let v19 : BitVec 32 := Scalar.maxsi c0_i32_4 v18
  let v20 : BitVec 32 := Scalar.minsi c2_i32 v19
  let c0_i32_5 : BitVec 32 := 0#32
  let c0_i32_6 : BitVec 32 := 0#32
  ![arg0.toNat, c0_i32_5.toNat, v20.toNat]

def cc1_transform_1 (i : grid1.Coords) : Fin 3 → Nat :=
  let arg0 : BitVec 32 := BitVec.ofNat 32 (i 0).val
  let c16_i32 : BitVec 32 := 16#32
  let v0 : BitVec 32 := Scalar.muli c16_i32 arg0
  let c52_i32 : BitVec 32 := 52#32
  let v1 : BitVec 32 := Scalar.subi v0 c52_i32
  let c128_i32 : BitVec 32 := 128#32
  let v2 : BitVec 32 := Scalar.divsi v1 c128_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c2_i32 : BitVec 32 := 2#32
  let v19 : BitVec 32 := Scalar.maxsi c0_i32_4 v18
  let v20 : BitVec 32 := Scalar.minsi c2_i32 v19
  let c1_i32_5 : BitVec 32 := 1#32
  let v21 : BitVec 32 := Scalar.addi v20 c1_i32_5
  let c0_i32_6 : BitVec 32 := 0#32
  let c0_i32_7 : BitVec 32 := 0#32
  ![arg0.toNat, c0_i32_6.toNat, v21.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x64x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x64x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x64x514 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S64x512x8 : Shape := ⟨3, ![64, 512, 8]⟩
abbrev S_ : Shape := ⟨0, ![]⟩
abbrev S64x512 : Shape := ⟨2, ![64, 512]⟩
abbrev S64x512x1 : Shape := ⟨3, ![64, 512, 1]⟩
abbrev S64x1x512 : Shape := ⟨3, ![64, 1, 512]⟩
abbrev S64x512x512 : Shape := ⟨3, ![64, 512, 512]⟩
abbrev S64x514x514 : Shape := ⟨3, ![64, 514, 514]⟩
abbrev S64x1x1 : Shape := ⟨3, ![64, 1, 1]⟩
abbrev S64 : Shape := ⟨1, ![64]⟩

abbrev nBuf : Space → Nat
  | .hbm => 78
  | .vmem => 0
  | .smem => 0
  | _ => 0

abbrev bufTy : (tb : Table) → Fin (tcTables nBuf tb) → BufTy
  | .hbm, ⟨0, _⟩ => ⟨S64x512x8, .f32⟩
  | .hbm, ⟨1, _⟩ => ⟨S64x512x8, .f32⟩
  | .hbm, ⟨2, _⟩ => ⟨S64x512x8, .f32⟩
  | .hbm, ⟨3, _⟩ => ⟨S_, .f32⟩
  | .hbm, ⟨4, _⟩ => ⟨S64x512, .f32⟩
  | .hbm, ⟨5, _⟩ => ⟨S64x512x1, .f32⟩
  | .hbm, ⟨6, _⟩ => ⟨S64x512x8, .f32⟩
  | .hbm, ⟨7, _⟩ => ⟨S_, .f32⟩
  | .hbm, ⟨8, _⟩ => ⟨S64x512, .f32⟩
  | .hbm, ⟨9, _⟩ => ⟨S64x1x512, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S_, .f32⟩
  | .hbm, ⟨15, _⟩ => ⟨S64x512x512, .f32⟩
  | .hbm, ⟨16, _⟩ => ⟨S64x512x512, .f32⟩
  | .hbm, ⟨17, _⟩ => ⟨S64x512x512, .f32⟩
  | .hbm, ⟨18, _⟩ => ⟨S_, .f32⟩
  | .hbm, ⟨19, _⟩ => ⟨S64x514x514, .f32⟩
  | .hbm, ⟨20, _⟩ => ⟨S_, .f32⟩
  | .hbm, ⟨21, _⟩ => ⟨S64x1x1, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64x514x514, .f32⟩
  | .hbm, ⟨26, _⟩ => ⟨S_, .i32⟩
  | .hbm, ⟨27, _⟩ => ⟨S_, .i32⟩
  | .hbm, ⟨28, _⟩ => ⟨S64x512x512, .f32⟩
  | .hbm, ⟨29, _⟩ => ⟨S_, .i32⟩
  | .hbm, ⟨30, _⟩ => ⟨S_, .i32⟩
  | .hbm, ⟨31, _⟩ => ⟨S64x514x514, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S64x1x1, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S64x1x1, .f32⟩
  | .hbm, ⟨46, _⟩ => ⟨S64x1x1, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x1x1, .f32⟩
  | .hbm, ⟨51, _⟩ => ⟨S64x1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .i1⟩
  | .hbm, ⟨62, _⟩ => ⟨S_, .i32⟩
  | .hbm, ⟨63, _⟩ => ⟨S64x1x1, .f32⟩
  | .hbm, ⟨64, _⟩ => ⟨S64x1x1, .f32⟩
  | .hbm, ⟨65, _⟩ => ⟨S_, .f32⟩
  | .hbm, ⟨66, _⟩ => ⟨S64x1x1, .f32⟩
  | .hbm, ⟨67, _⟩ => ⟨S64x1x1, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S64x514x514, .f32⟩
  | .hbm, ⟨74, _⟩ => ⟨S_, .i32⟩
  | .hbm, ⟨75, _⟩ => ⟨S_, .i32⟩
  | .hbm, ⟨76, _⟩ => ⟨S64x1x1, .f32⟩
  | .hbm, ⟨77, _⟩ => ⟨S64, .f32⟩
  | _, _ => ⟨S64x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_c : Ref sig .tc := ⟨.hbm, 22, rfl⟩
abbrev main_c_4 : Ref sig .tc := ⟨.hbm, 23, rfl⟩
abbrev main_c_5 : Ref sig .tc := ⟨.hbm, 24, rfl⟩
abbrev main_v15 : Ref sig .tc := ⟨.hbm, 25, rfl⟩
abbrev main_c_6 : Ref sig .tc := ⟨.hbm, 26, rfl⟩
abbrev main_c_7 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_while0c_c_11 : Ref sig .tc := ⟨.hbm, 32, rfl⟩
abbrev main_while0c_v19 : Ref sig .tc := ⟨.hbm, 33, rfl⟩
abbrev main_while0b_c_11 : Ref sig .tc := ⟨.hbm, 34, rfl⟩
abbrev main_while0b_v19 : Ref sig .tc := ⟨.hbm, 35, rfl⟩
abbrev main_while0b_c_12 : Ref sig .tc := ⟨.hbm, 36, rfl⟩
abbrev main_while0b_v20 : Ref sig .tc := ⟨.hbm, 37, rfl⟩
abbrev main_while0b_c_13 : Ref sig .tc := ⟨.hbm, 38, rfl⟩
abbrev main_while0b_v21 : Ref sig .tc := ⟨.hbm, 39, rfl⟩
abbrev main_while0b_c_14 : Ref sig .tc := ⟨.hbm, 40, rfl⟩
abbrev main_while0b_v22 : Ref sig .tc := ⟨.hbm, 41, rfl⟩
abbrev main_while0b_c_15 : Ref sig .tc := ⟨.hbm, 42, rfl⟩
abbrev main_while0b_v23 : Ref sig .tc := ⟨.hbm, 43, rfl⟩
abbrev main_while0b_c_16 : Ref sig .tc := ⟨.hbm, 44, rfl⟩
abbrev main_while0b_v24 : Ref sig .tc := ⟨.hbm, 45, rfl⟩
abbrev main_while0b_v25 : Ref sig .tc := ⟨.hbm, 46, rfl⟩
abbrev main_while0b_c_17 : Ref sig .tc := ⟨.hbm, 47, rfl⟩
abbrev main_while0b_v26 : Ref sig .tc := ⟨.hbm, 48, rfl⟩
abbrev main_while0b_c_18 : Ref sig .tc := ⟨.hbm, 49, rfl⟩
abbrev main_while0b_v27 : Ref sig .tc := ⟨.hbm, 50, rfl⟩
abbrev main_while0b_v28 : Ref sig .tc := ⟨.hbm, 51, rfl⟩
abbrev main_while0b_v29 : Ref sig .tc := ⟨.hbm, 52, rfl⟩
abbrev main_while0b_cst_19 : Ref sig .tc := ⟨.hbm, 53, rfl⟩
abbrev main_while0b_v30 : Ref sig .tc := ⟨.hbm, 54, rfl⟩
abbrev main_while0b_v31 : Ref sig .tc := ⟨.hbm, 55, rfl⟩
abbrev main_while0b_cst_20 : Ref sig .tc := ⟨.hbm, 56, rfl⟩
abbrev main_while0b_v32 : Ref sig .tc := ⟨.hbm, 57, rfl⟩
abbrev main_while0b_v33 : Ref sig .tc := ⟨.hbm, 58, rfl⟩
abbrev main_while0b_v34 : Ref sig .tc := ⟨.hbm, 59, rfl⟩
abbrev main_while0b_cst_21 : Ref sig .tc := ⟨.hbm, 60, rfl⟩
abbrev main_while0b_v35 : Ref sig .tc := ⟨.hbm, 61, rfl⟩
abbrev main_while0b_c_22 : Ref sig .tc := ⟨.hbm, 62, rfl⟩
abbrev main_while0b_v36 : Ref sig .tc := ⟨.hbm, 63, rfl⟩
abbrev main_while0b_v37 : Ref sig .tc := ⟨.hbm, 64, rfl⟩
abbrev main_while0b_cst_23 : Ref sig .tc := ⟨.hbm, 65, rfl⟩
abbrev main_while0b_v38 : Ref sig .tc := ⟨.hbm, 66, rfl⟩
abbrev main_while0b_v39 : Ref sig .tc := ⟨.hbm, 67, rfl⟩
abbrev main_while0b_c_24 : Ref sig .tc := ⟨.hbm, 68, rfl⟩
abbrev main_while0b_v40 : Ref sig .tc := ⟨.hbm, 69, rfl⟩
abbrev main_while0b_c_25 : Ref sig .tc := ⟨.hbm, 70, rfl⟩
abbrev main_while0b_v41 : Ref sig .tc := ⟨.hbm, 71, rfl⟩
abbrev main_while0b_c_26 : Ref sig .tc := ⟨.hbm, 72, rfl⟩
abbrev main_while0b_v42 : Ref sig .tc := ⟨.hbm, 73, rfl⟩
abbrev main_while0b_c_27 : Ref sig .tc := ⟨.hbm, 74, rfl⟩
abbrev main_while0b_v43 : Ref sig .tc := ⟨.hbm, 75, rfl⟩
abbrev main_v17 : Ref sig .tc := ⟨.hbm, 76, rfl⟩
abbrev main_v18 : Ref sig .tc := ⟨.hbm, 77, rfl⟩

abbrev nD : Nat := 1
abbrev τ : Topo := Topo.v7x

variable {F : FTy → Type} [FloatOps F]

abbrev main_while0_count : Scf.Loop 32 := ⟨0#32, 262144#32, 1#32⟩
-- ==== Proof.DpRun.lean ====
/-
  The dynamic-programming kernel's body run once, part by part, at symbolic operands: every value the run meets takes a
  name (`dpRun.sl.v…`), so that what is left in the buffers stays small.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's. -/
abbrev UR (nD : Nat) (τ : Topo) : Type := URounds (GSem nD τ sig) Unit

local notation "𝕄" => MT nD τ sig Unit (Elt F) ℕ (UR nD τ) ℕ

/-- A memref's contents on core `c`, and its buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- What the body leaves (the stores in the output block, and the kept row's buffer), with the proof that from the two
    blocks of distances, the output block and the kept row held whole the body runs to its return leaving that. -/
def dpRun (c : Dev nD) (i : grid1.Coords) (M0 : Memref sig .tc .vmem S16x64x128 .bf16) (h0 : M0.IsWhole)
    (M1 : Memref sig .tc .vmem S16x64x128 .bf16) (h1 : M1.IsWhole)
    (M2 : Memref sig .tc .vmem S16x64x514 .f32) (h2 : M2.IsWhole)
    (M3 : Memref sig .tc .vmem S64x256 .f32) (h3 : M3.IsWhole)
    (f0 : Bf (F := F) c M0) (f1 : Bf (F := F) c M1) (f3 : Bf (F := F) c M3) :
    { W : List (View.Piece (Elt F) S16x64x514 .f32) × Bf (F := F) c M3 //
      ∀ (f2 : Bf (F := F) c M2) (Q : PUnit → sProp 𝕄),
      iprop(pt c M0 f0 ∗ pt c M1 f1 ∗ pt c M2 f2 ∗ pt c M3 f3
        ∗ (iprop(pt c M0 f0 ∗ pt c M1 f1 ∗ pt c M2 (M2.view.writes (Elt F) f2 W.1) ∗ pt c M3 W.2) -∗ Q ⟨⟩))
      ⊢ wp frame (wpE (defs₀ (F := F)) Variants.none c none) Set.univ
          (cc1_dtw_dp i M0 h0 M1 h1 M2 h2 M3 h3) Q } := by
  refine ⟨⟨?_, ?_⟩, fun f2 Q => ?run⟩
  case run =>
    iintro ⟨H0, H1, H2, H3, Hk⟩
    sl_unfold [cc1_dtw_dp]
    set_option sl_exec.resultNames true in
    sl_exec_parts
    sl_step
    iapply Hk
    isplitl [H0]; · iexact H0
    isplitl [H1]; · iexact H1
    isplitl [H2]; · iexact H2
    iexact H3

end Cert.KernelIdeal.Hand

end
-- ==== Proof.RowDefs.lean ====
/-
  The dynamic-programming kernel's work on one table row, as two functions: `rowNew`, the row computed from the row
  above and the row's distances (a banded min-plus scan along the 256 lanes of the window), and `rowTile`, the same row
  laid out over the 514 padded columns. `chunkRow` folds `rowNew` over the sixteen rows of a grid point.
-/
module

public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe

variable {F : FTy → Type} [FloatOps F]

/-- Plus infinity, the fill value. -/
abbrev infF : F .f32 := Scalar.ofBits .f32 0x7F800000#32

/-- A row moved to the right, infinity shifted in: `s` and `t` are the shapes of the fill and of what stays. -/
def shl (s t : Shape) (ht : S64x256.Slices ![0, 0] t) (hc : Shape.Concatenates [s, t] S64x256 1) (x : FVec F S64x256 .f32) :
    FVec F S64x256 .f32 :=
  concatenate S64x256 1 [⟨s, broadcast s infF⟩, ⟨t, extractStridedSlice t ![0, 0] x ht⟩] hc

/-- A row moved 1 lane to the right. -/
abbrev sh1 (x : FVec F S64x256 .f32) : FVec F S64x256 .f32 :=
  shl S64x1 S64x255 slices_S64x256_o0_0_S64x255 concatenates_S64x1_S64x255_S64x256_d1 x
/-- A row moved 2 lanes to the right. -/
abbrev sh2 (x : FVec F S64x256 .f32) : FVec F S64x256 .f32 :=
  shl S64x2 S64x254 slices_S64x256_o0_0_S64x254 concatenates_S64x2_S64x254_S64x256_d1 x
/-- A row moved 3 lanes to the right. -/
abbrev sh3 (x : FVec F S64x256 .f32) : FVec F S64x256 .f32 :=
  shl S64x3 S64x253 slices_S64x256_o0_0_S64x253 concatenates_S64x3_S64x253_S64x256_d1 x
/-- A row moved 4 lanes to the right. -/
abbrev sh4 (x : FVec F S64x256 .f32) : FVec F S64x256 .f32 :=
  shl S64x4 S64x252 slices_S64x256_o0_0_S64x252 concatenates_S64x4_S64x252_S64x256_d1 x
/-- A row moved 8 lanes to the right. -/
abbrev sh8 (x : FVec F S64x256 .f32) : FVec F S64x256 .f32 :=
  shl S64x8 S64x248 slices_S64x256_o0_0_S64x248 concatenates_S64x8_S64x248_S64x256_d1 x
/-- A row moved 12 lanes to the right. -/
abbrev sh12 (x : FVec F S64x256 .f32) : FVec F S64x256 .f32 :=
  shl S64x12 S64x244 slices_S64x256_o0_0_S64x244 concatenates_S64x12_S64x244_S64x256_d1 x
/-- A row moved 16 lanes to the right. -/
abbrev sh16 (x : FVec F S64x256 .f32) : FVec F S64x256 .f32 :=
  shl S64x16 S64x240 slices_S64x256_o0_0_S64x240 concatenates_S64x16_S64x240_S64x256_d1 x
/-- A row moved 32 lanes to the right. -/
abbrev sh32 (x : FVec F S64x256 .f32) : FVec F S64x256 .f32 :=
  shl S64x32 S64x224 slices_S64x256_o0_0_S64x224 concatenates_S64x32_S64x224_S64x256_d1 x
/-- A row moved 48 lanes to the right. -/
abbrev sh48 (x : FVec F S64x256 .f32) : FVec F S64x256 .f32 :=
  shl S64x48 S64x208 slices_S64x256_o0_0_S64x208 concatenates_S64x48_S64x208_S64x256_d1 x
/-- A row moved 64 lanes to the right. -/
abbrev sh64 (x : FVec F S64x256 .f32) : FVec F S64x256 .f32 :=
  shl S64x64 S64x192 slices_S64x256_o0_0_S64x192 concatenates_S64x64_S64x192_S64x256_d1 x

/-- One round of the scan: the best of taking no, one, two or three jumps, the jumps' costs `s1`, `s2`, `s3`. -/
def scan4 (m m1 s1 m2 s2 m3 s3 : FVec F S64x256 .f32) : FVec F S64x256 .f32 :=
  minimumf (minimumf (minimumf m (addf m1 s1)) (addf m2 s2)) (addf m3 s3)

/-- Cost of the last four lanes, from the distances. -/
def cost2 (d : FVec F S64x256 .f32) : FVec F S64x256 .f32 := addf d (sh1 d)
def cost3 (d : FVec F S64x256 .f32) : FVec F S64x256 .f32 := addf (cost2 d) (sh2 d)
def cost4 (d : FVec F S64x256 .f32) : FVec F S64x256 .f32 := addf (cost3 d) (sh3 d)
/-- Cost of the last eight, twelve and sixteen lanes, from that of four. -/
def cost8 (s : FVec F S64x256 .f32) : FVec F S64x256 .f32 := addf s (sh4 s)
def cost12 (s : FVec F S64x256 .f32) : FVec F S64x256 .f32 := addf (cost8 s) (sh8 s)
def cost16 (s : FVec F S64x256 .f32) : FVec F S64x256 .f32 := addf (cost12 s) (sh12 s)
/-- Cost of the last 32, 48 and 64 lanes, from that of sixteen. -/
def cost32 (s : FVec F S64x256 .f32) : FVec F S64x256 .f32 := addf s (sh16 s)
def cost48 (s : FVec F S64x256 .f32) : FVec F S64x256 .f32 := addf (cost32 s) (sh32 s)
def cost64 (s : FVec F S64x256 .f32) : FVec F S64x256 .f32 := addf (cost48 s) (sh48 s)

/-- The three rounds of four and the last doubling. -/
def scanA (m d : FVec F S64x256 .f32) : FVec F S64x256 .f32 := scan4 m (sh1 m) d (sh2 m) (cost2 d) (sh3 m) (cost3 d)
def scanB (m s : FVec F S64x256 .f32) : FVec F S64x256 .f32 := scan4 m (sh4 m) s (sh8 m) (cost8 s) (sh12 m) (cost12 s)
def scanC (m s : FVec F S64x256 .f32) : FVec F S64x256 .f32 := scan4 m (sh16 m) s (sh32 m) (cost32 s) (sh48 m) (cost48 s)
def scanD (m s : FVec F S64x256 .f32) : FVec F S64x256 .f32 := minimumf m (addf (sh64 m) s)

/-- Which lanes of row `i` lie in the band (and the row in the table). -/
def bandMask (jw : IVec S64x256 32) (i : BitVec 32) : IVec S64x256 1 :=
  andi (andi (cmpi .sge jw (broadcast S64x256 (Scalar.subi i 51#32))) (cmpi .sle jw (broadcast S64x256 (Scalar.addi i 51#32))))
    (broadcast S64x256 (Scalar.andi (Scalar.cmpi .sge i 0#32) (Scalar.cmpi .slt i 512#32)))

/-- What a lane of the row would hold without a step along the row. -/
def rowBase (jw : IVec S64x256 32) (i : BitVec 32) (prev d : FVec F S64x256 .f32) : FVec F S64x256 .f32 :=
  select (bandMask jw i)
    (addf (minimumf (select (cmpi .eq jw (broadcast S64x256 0#32))
      (broadcast S64x256 (Scalar.select (Scalar.cmpi .eq i 0#32) (Scalar.ofBits .f32 0x00000000#32) infF)) (sh1 prev)) prev) d)
    (broadcast S64x256 infF)

/-- Row `i` of the table on the window's lanes (`jw` the lanes' columns), from the row above and the row's distances. -/
def rowNew (jw : IVec S64x256 32) (i : BitVec 32) (prev d : FVec F S64x256 .f32) : FVec F S64x256 .f32 :=
  select (bandMask jw i)
    (scanD (scanC (scanB (scanA (rowBase jw i prev d) d) (cost4 d)) (cost16 (cost4 d))) (cost64 (cost16 (cost4 d))))
    (broadcast S64x256 infF)

/-- One quarter of the 512 columns: the window's left half, its right half, or infinity. -/
def quarter (lb : BitVec 32) (k k' : BitVec 32) (r : FVec F S64x256 .f32) : FVec F S64x128 .f32 :=
  Scalar.select (Scalar.cmpi .eq lb k) (extractStridedSlice S64x128 ![0, 0] r slices_S64x256_o0_0_S64x128)
    (Scalar.select (Scalar.cmpi .eq lb k') (extractStridedSlice S64x128 ![0, 128] r slices_S64x256_o0_128_S64x128)
      (broadcast S64x128 infF))

/-- A row laid out over the 514 padded columns. -/
def rowFull (lb orow : BitVec 32) (r : FVec F S64x256 .f32) : FVec F S64x514 .f32 :=
  concatenate S64x514 1
    [⟨S64x1, broadcast S64x1 (Scalar.select (Scalar.cmpi .eq orow 0#32) (Scalar.ofBits .f32 0x00000000#32) infF)⟩,
      ⟨S64x128, quarter lb 0#32 4294967295#32 r⟩, ⟨S64x128, quarter lb 1#32 0#32 r⟩, ⟨S64x128, quarter lb 2#32 1#32 r⟩,
      ⟨S64x128, quarter lb 3#32 2#32 r⟩, ⟨S64x1, broadcast S64x1 infF⟩]
    concatenates_S64x1_S64x128_S64x128_S64x128_S64x128_S64x1_S64x514_d1

/-- The same as a block of one row. -/
def rowTile (lb orow : BitVec 32) (r : FVec F S64x256 .f32) : FVec F S1x64x514 .f32 :=
  shapeCast S1x64x514 (rowFull lb orow r) shapeCasts_S64x514_S1x64x514

/-- The row's distances, from the two 128-column blocks of the window. -/
def dRow (a b : Vec F S1x64x128 .bf16) : FVec F S64x256 .f32 :=
  extf .f32 (concatenate S64x256 1 [⟨S64x128, shapeCast S64x128 a shapeCasts_S1x64x128_S64x128⟩,
    ⟨S64x128, shapeCast S64x128 b shapeCasts_S1x64x128_S64x128⟩] concatenates_S64x128_S64x128_S64x256_d1) bitsLt_bf16_f32

/-- The number of the window's left block at chunk `n`, clipped to the table. -/
def lbN (n : ℕ) : ℕ := min 2 ((16 * n - 52) / 128)

/-- The kept row, moved left by one block when the window moves by one. -/
def prevIn (n : ℕ) (s : FVec F S64x256 .f32) : FVec F S64x256 .f32 :=
  if lbN (n - 1) + 1 = lbN n then
    concatenate S64x256 1 [⟨S64x128, extractStridedSlice S64x128 ![0, 128] s slices_S64x256_o0_128_S64x128⟩,
      ⟨S64x128, broadcast S64x128 infF⟩] concatenates_S64x128_S64x128_S64x256_d1
  else s

/-- The columns of the window's lanes at chunk `n`. -/
def jwN (n : ℕ) : IVec S64x256 32 := fun y => BitVec.ofNat 32 (y 1).val + BitVec.ofNat 32 (lbN n * 128)

/-- The padded row number of row `r` of chunk `n`, and the table row (one less). -/
abbrev orowN (n r : ℕ) : BitVec 32 := BitVec.ofNat 32 (16 * n + r)
abbrev irowN (n r : ℕ) : BitVec 32 := BitVec.ofNat 32 (16 * n + r) - 1#32

/-- Row `r` of a block of sixteen rows, as a block of one. -/
def rowAt {e : EltTy} (x : Vec F S16x64x128 e) (r : ℕ) : Vec F S1x64x128 e :=
  fun y => x (fun a => match a with
    | 0 => ⟨r % 16, Nat.mod_lt _ (by decide)⟩
    | 1 => y 1
    | 2 => y 2)

/-- Row `r` of chunk `n`, from the two blocks of distances and the row kept from the chunk before. -/
def chunkRow (n : ℕ) (x0 x1 : Vec F S16x64x128 .bf16) (s : FVec F S64x256 .f32) : ℕ → FVec F S64x256 .f32
  | 0 => rowNew (jwN n) (irowN n 0) (prevIn n s) (dRow (rowAt x0 0) (rowAt x1 0))
  | r + 1 => rowNew (jwN n) (irowN n (r + 1)) (chunkRow n x0 x1 s r) (dRow (rowAt x0 (r + 1)) (rowAt x1 (r + 1)))

/-- The block chunk `n` writes: its sixteen rows laid out over the padded columns. -/
def chunkOut (n : ℕ) (x0 x1 : Vec F S16x64x128 .bf16) (s : FVec F S64x256 .f32) : Vec F S16x64x514 .f32 :=
  fun y => rowFull (BitVec.ofNat 32 (lbN n)) (orowN n (y 0).val) (chunkRow n x0 x1 s (y 0).val)
    (fun a => match a with | 0 => y 1 | 1 => y 2)

end Cert.KernelIdeal.Hand

end
-- ==== Proof.DpEq.lean ====
/-
  The dynamic-programming body's run, read back: each row vector the run names is `rowNew` of the one before it.
-/
module

public import proofs.«01_k».proof.Proof.DpRun
public import proofs.«01_k».proof.Proof.RowDefs
public import Idealize.ShloMosaic.Lib.Pipeline.Value

@[expose] public section

noncomputable section

namespace Cert.KernelIdeal.Hand

open Cert.KernelIdeal Cert.KernelIdeal.Gen
open Idealize.ShloMosaic Idealize.ShloMosaic.TcCoe

variable {F : FTy → Type} [FloatOps F]

variable (c : Dev nD) (i : grid1.Coords) (M0 M1 : Memref sig .tc .vmem S16x64x128 .bf16) (M3 : Memref sig .tc .vmem S64x256 .f32)
  (f0 : Bf (F := F) c M0) (f1 : Bf (F := F) c M1) (f3 : Bf (F := F) c M3)

set_option maxRecDepth 65536

theorem run_row0 : dpRun.sl.v178 c i M0 M1 M3 f0 f1 f3 =
    rowNew (dpRun.sl.v56 i) (Scalar.subi (Scalar.addi (dpRun.sl.v57 i) 0#32) 1#32) (dpRun.sl.v54 c i M3 f3)
      (dRow (View.readAt (Elt F) M0.view (Rect.unit (s := S16x64x128) ![0, 0, 0] S1x64x128.size inb_S16x64x128_S1x64x128_0_0_0).toLoadRect f0)
        (View.readAt (Elt F) M1.view (Rect.unit (s := S16x64x128) ![0, 0, 0] S1x64x128.size inb_S16x64x128_S1x64x128_0_0_0).toLoadRect f1)) := rfl

theorem run_row1 : dpRun.sl.v336 c i M0 M1 M3 f0 f1 f3 =
    rowNew (dpRun.sl.v56 i) (Scalar.subi (Scalar.addi (dpRun.sl.v57 i) 1#32) 1#32) (dpRun.sl.v178 c i M0 M1 M3 f0 f1 f3)
      (dRow (View.readAt (Elt F) M0.view (Rect.unit (s := S16x64x128) ![1, 0, 0] S1x64x128.size inb_S16x64x128_S1x64x128_1_0_0).toLoadRect f0)
        (View.readAt (Elt F) M1.view (Rect.unit (s := S16x64x128) ![1, 0, 0] S1x64x128.size inb_S16x64x128_S1x64x128_1_0_0).toLoadRect f1)) := rfl

theorem run_row2 : dpRun.sl.v494 c i M0 M1 M3 f0 f1 f3 =
    rowNew (dpRun.sl.v56 i) (Scalar.subi (Scalar.addi (dpRun.sl.v57 i) 2#32) 1#32) (dpRun.sl.v336 c i M0 M1 M3 f0 f1 f3)
      (dRow (View.readAt (Elt F) M0.view (Rect.unit (s := S16x64x128) ![2, 0, 0] S1x64x128.size inb_S16x64x128_S1x64x128_2_0_0).toLoadRect f0)
        (View.readAt (Elt F) M1.view (Rect.unit (s := S16x64x128) ![2, 0, 0] S1x64x128.size inb_S16x64x128_S1x64x128_2_0_0).toLoadRect f1)) := rfl

theorem run_row3 : dpRun.sl.v652 c i M0 M1 M3 f0 f1 f3 =
    rowNew (dpRun.sl.v56 i) (Scalar.subi (Scalar.addi (dpRun.sl.v57 i) 3#32) 1#32) (dpRun.sl.v494 c i M0 M1 M3 f0 f1 f3)
      (dRow (View.readAt (Elt F) M0.view (Rect.unit (s := S16x64x128) ![3, 0, 0] S1x64x128.size inb_S16x64x128_S1x64x128_3_0_0).toLoadRect f0)
        (View.readAt (Elt F) M1.view (Rect.unit (s := S16x64x128) ![3, 0, 0] S1x64x128.size inb_S16x64x128_S1x64x128_3_0_0).toLoadRect f1)) := rfl

theorem run_row4 : dpRun.sl.v810 c i M0 M1 M3 f0 f1 f3 =
    rowNew (dpRun.sl.v56 i) (Scalar.subi (Scalar.addi (dpRun.sl.v57 i) 4#32) 1#32) (dpRun.sl.v652 c i M0 M1 M3 f0 f1 f3)
      (dRow (View.readAt (Elt F) M0.view (Rect.unit (s := S16x64x128) ![4, 0, 0] S1x64x128.size inb_S16x64x128_S1x64x128_4_0_0).toLoadRect f0)
        (View.readAt (Elt F) M1.view (Rect.unit (s := S16x64x128) ![4, 0, 0] S1x64x128.size inb_S16x64x128_S1x64x128_4_0_0).toLoadRect f1)) := rfl

theorem run_row5 : dpRun.sl.v968 c i M0 M1 M3 f0 f1 f3 =
    rowNew (dpRun.sl.v56 i) (Scalar.subi (Scalar.addi (dpRun.sl.v57 i) 5#32) 1#32) (dpRun.sl.v810 c i M0 M1 M3 f0 f1 f3)
      (dRow (View.readAt (Elt F) M0.view (Rect.unit (s := S16x64x128) ![5, 0, 0] S1x64x128.size inb_S16x64x128_S1x64x128_5_0_0).toLoadRect f0)
        (View.readAt (Elt F) M1.view (Rect.unit (s := S16x64x128) ![5, 0, 0] S1x64x128.size inb_S16x64x128_S1x64x128_5_0_0).toLoadRect f1)) := rfl

theorem run_row6 : dpRun.sl.v1126 c i M0 M1 M3 f0 f1 f3 =
    rowNew (dpRun.sl.v56 i) (Scalar.subi (Scalar.addi (dpRun.sl.v57 i) 6#32) 1#32) (dpRun.sl.v968 c i M0 M1 M3 f0 f1 f3)
      (dRow (View.readAt (Elt F) M0.view (Rect.unit (s := S16x64x128) ![6, 0, 0] S1x64x128.size inb_S16x64x128_S1x64x128_6_0_0).toLoadRect f0)
        (View.readAt (Elt F) M1.view (Rect.unit (s := S16x64x128) ![6, 0, 0] S1x64x128.size inb_S16x64x128_S1x64x128_6_0_0).toLoadRect f1)) := rfl

theorem run_row7 : dpRun.sl.v1284 c i M0 M1 M3 f0 f1 f3 =
    rowNew (dpRun.sl.v56 i) (Scalar.subi (Scalar.addi (dpRun.sl.v57 i) 7#32) 1#32) (dpRun.sl.v1126 c i M0 M1 M3 f0 f1 f3)
      (dRow (View.readAt (Elt F) M0.view (Rect.unit (s := S16x64x128) ![7, 0, 0] S1x64x128.size inb_S16x64x128_S1x64x128_7_0_0).toLoadRect f0)
        (View.readAt (Elt F) M1.view (Rect.unit (s := S16x64x128) ![7, 0, 0] S1x64x128.size inb_S16x64x128_S1x64x128_7_0_0).toLoadRect f1)) := rfl

theorem run_row8 : dpRun.sl.v1442 c i M0 M1 M3 f0 f1 f3 =
    rowNew (dpRun.sl.v56 i) (Scalar.subi (Scalar.addi (dpRun.sl.v57 i) 8#32) 1#32) (dpRun.sl.v1284 c i M0 M1 M3 f0 f1 f3)
      (dRow (View.readAt (Elt F) M0.view (Rect.unit (s := S16x64x128) ![8, 0, 0] S1x64x128.size inb_S16x64x128_S1x64x128_8_0_0).toLoadRect f0)
        (View.readAt (Elt F) M1.view (Rect.unit (s := S16x64x128) ![8, 0, 0] S1x64x128.size inb_S16x64x128_S1x64x128_8_0_0).toLoadRect f1)) := rfl

theorem run_row9 : dpRun.sl.v1600 c i M0 M1 M3 f0 f1 f3 =
    rowNew (dpRun.sl.v56 i) (Scalar.subi (Scalar.addi (dpRun.sl.v57 i) 9#32) 1#32) (dpRun.sl.v1442 c i M0 M1 M3 f0 f1 f3)
      (dRow (View.readAt (Elt F) M0.view (Rect.unit (s := S16x64x128) ![9, 0, 0] S1x64x128.size inb_S16x64x128_S1x64x128_9_0_0).toLoadRect f0)
        (View.readAt (Elt F) M1.view (Rect.unit (s := S16x64x128) ![9, 0, 0] S1x64x128.size inb_S16x64x128_S1x64x128_9_0_0).toLoadRect f1)) := rfl

theorem run_row10 : dpRun.sl.v1758 c i M0 M1 M3 f0 f1 f3 =
    rowNew (dpRun.sl.v56 i) (Scalar.subi (Scalar.addi (dpRun.sl.v57 i) 10#32) 1#32) (dpRun.sl.v1600 c i M0 M1 M3 f0 f1 f3)
      (dRow (View.readAt (Elt F) M0.view (Rect.unit (s := S16x64x128) ![10, 0, 0] S1x64x128.size inb_S16x64x128_S1x64x128_10_0_0).toLoadRect f0)
        (View.readAt (Elt F) M1.view (Rect.unit (s := S16x64x128) ![10, 0, 0] S1x64x128.size inb_S16x64x128_S1x64x128_10_0_0).toLoadRect f1)) := rfl

theorem run_row11 : dpRun.sl.v1916 c i M0 M1 M3 f0 f1 f3 =
    rowNew (dpRun.sl.v56 i) (Scalar.subi (Scalar.addi (dpRun.sl.v57 i) 11#32) 1#32) (dpRun.sl.v1758 c i M0 M1 M3 f0 f1 f3)
      (dRow (View.readAt (Elt F) M0.view (Rect.unit (s := S16x64x128) ![11, 0, 0] S1x64x128.size inb_S16x64x128_S1x64x128_11_0_0).toLoadRect f0)
        (View.readAt (Elt F) M1.view (Rect.unit (s := S16x64x128) ![11, 0, 0] S1x64x128.size inb_S16x64x128_S1x64x128_11_0_0).toLoadRect f1)) := rfl

theorem run_row12 : dpRun.sl.v2074 c i M0 M1 M3 f0 f1 f3 =
    rowNew (dpRun.sl.v56 i) (Scalar.subi (Scalar.addi (dpRun.sl.v57 i) 12#32) 1#32) (dpRun.sl.v1916 c i M0 M1 M3 f0 f1 f3)
      (dRow (View.readAt (Elt F) M0.view (Rect.unit (s := S16x64x128) ![12, 0, 0] S1x64x128.size inb_S16x64x128_S1x64x128_12_0_0).toLoadRect f0)
        (View.readAt (Elt F) M1.view (Rect.unit (s := S16x64x128) ![12, 0, 0] S1x64x128.size inb_S16x64x128_S1x64x128_12_0_0).toLoadRect f1)) := rfl

theorem run_row13 : dpRun.sl.v2232 c i M0 M1 M3 f0 f1 f3 =
    rowNew (dpRun.sl.v56 i) (Scalar.subi (Scalar.addi (dpRun.sl.v57 i) 13#32) 1#32) (dpRun.sl.v2074 c i M0 M1 M3 f0 f1 f3)
      (dRow (View.readAt (Elt F) M0.view (Rect.unit (s := S16x64x128) ![13, 0, 0] S1x64x128.size inb_S16x64x128_S1x64x128_13_0_0).toLoadRect f0)
        (View.readAt (Elt F) M1.view (Rect.unit (s := S16x64x128) ![13, 0, 0] S1x64x128.size inb_S16x64x128_S1x64x128_13_0_0).toLoadRect f1)) := rfl

theorem run_row14 : dpRun.sl.v2390 c i M0 M1 M3 f0 f1 f3 =
    rowNew (dpRun.sl.v56 i) (Scalar.subi (Scalar.addi (dpRun.sl.v57 i) 14#32) 1#32) (dpRun.sl.v2232 c i M0 M1 M3 f0 f1 f3)
      (dRow (View.readAt (Elt F) M0.view (Rect.unit (s := S16x64x128) ![14, 0, 0] S1x64x128.size inb_S16x64x128_S1x64x128_14_0_0).toLoadRect f0)
        (View.readAt (Elt F) M1.view (Rect.unit (s := S16x64x128) ![14, 0, 0] S1x64x128.size inb_S16x64x128_S1x64x128_14_0_0).toLoadRect f1)) := rfl

theorem run_row15 : dpRun.sl.v2548 c i M0 M1 M3 f0 f1 f3 =
    rowNew (dpRun.sl.v56 i) (Scalar.subi (Scalar.addi (dpRun.sl.v57 i) 15#32) 1#32) (dpRun.sl.v2390 c i M0 M1 M3 f0 f1 f3)
      (dRow (View.readAt (Elt F) M0.view (Rect.unit (s := S16x64x128) ![15, 0, 0] S1x64x128.size inb_S16x64x128_S1x64x128_15_0_0).toLoadRect f0)
        (View.readAt (Elt F) M1.view (Rect.unit (s := S16x64x128) ![15, 0, 0] S1x64x128.size inb_S16x64x128_S1x64x128_15_0_0).toLoadRect f1)) := rfl

/-! ## What is stored: a row's tile per store -/

theorem run_piece0 : dpRun.sl.H2_1 c i M0 M1 M3 f0 f1 f3 =
    ⟨Rect.unit (s := S16x64x514) ![0, 0, 0] S1x64x514.size inb_S16x64x514_S1x64x514_0_0_0,
      rowTile (dpRun.sl.v21 i) (Scalar.addi (dpRun.sl.v57 i) 0#32) (dpRun.sl.v178 c i M0 M1 M3 f0 f1 f3)⟩ :: [] := rfl

theorem run_piece1 : dpRun.sl.H2_2 c i M0 M1 M3 f0 f1 f3 =
    ⟨Rect.unit (s := S16x64x514) ![1, 0, 0] S1x64x514.size inb_S16x64x514_S1x64x514_1_0_0,
      rowTile (dpRun.sl.v21 i) (Scalar.addi (dpRun.sl.v57 i) 1#32) (dpRun.sl.v336 c i M0 M1 M3 f0 f1 f3)⟩ :: dpRun.sl.H2_1 c i M0 M1 M3 f0 f1 f3 := rfl

theorem run_piece2 : dpRun.sl.H2_3 c i M0 M1 M3 f0 f1 f3 =
    ⟨Rect.unit (s := S16x64x514) ![2, 0, 0] S1x64x514.size inb_S16x64x514_S1x64x514_2_0_0,
      rowTile (dpRun.sl.v21 i) (Scalar.addi (dpRun.sl.v57 i) 2#32) (dpRun.sl.v494 c i M0 M1 M3 f0 f1 f3)⟩ :: dpRun.sl.H2_2 c i M0 M1 M3 f0 f1 f3 := rfl

theorem run_piece3 : dpRun.sl.H2_4 c i M0 M1 M3 f0 f1 f3 =
    ⟨Rect.unit (s := S16x64x514) ![3, 0, 0] S1x64x514.size inb_S16x64x514_S1x64x514_3_0_0,
      rowTile (dpRun.sl.v21 i) (Scalar.addi (dpRun.sl.v57 i) 3#32) (dpRun.sl.v652 c i M0 M1 M3 f0 f1 f3)⟩ :: dpRun.sl.H2_3 c i M0 M1 M3 f0 f1 f3 := rfl

theorem run_piece4 : dpRun.sl.H2_5 c i M0 M1 M3 f0 f1 f3 =
    ⟨Rect.unit (s := S16x64x514) ![4, 0, 0] S1x64x514.size inb_S16x64x514_S1x64x514_4_0_0,
      rowTile (dpRun.sl.v21 i) (Scalar.addi (dpRun.sl.v57 i) 4#32) (dpRun.sl.v810 c i M0 M1 M3 f0 f1 f3)⟩ :: dpRun.sl.H2_4 c i M0 M1 M3 f0 f1 f3 := rfl

theorem run_piece5 : dpRun.sl.H2_6 c i M0 M1 M3 f0 f1 f3 =
    ⟨Rect.unit (s := S16x64x514) ![5, 0, 0] S1x64x514.size inb_S16x64x514_S1x64x514_5_0_0,
      rowTile (dpRun.sl.v21 i) (Scalar.addi (dpRun.sl.v57 i) 5#32) (dpRun.sl.v968 c i M0 M1 M3 f0 f1 f3)⟩ :: dpRun.sl.H2_5 c i M0 M1 M3 f0 f1 f3 := rfl

theorem run_piece6 : dpRun.sl.H2_7 c i M0 M1 M3 f0 f1 f3 =
    ⟨Rect.unit (s := S16x64x514) ![6, 0, 0] S1x64x514.size inb_S16x64x514_S1x64x514_6_0_0,
      rowTile (dpRun.sl.v21 i) (Scalar.addi (dpRun.sl.v57 i) 6#32) (dpRun.sl.v1126 c i M0 M1 M3 f0 f1 f3)⟩ :: dpRun.sl.H2_6 c i M0 M1 M3 f0 f1 f3 := rfl

theorem run_piece7 : dpRun.sl.H2_8 c i M0 M1 M3 f0 f1 f3 =
    ⟨Rect.unit (s := S16x64x514) ![7, 0, 0] S1x64x514.size inb_S16x64x514_S1x64x514_7_0_0,
      rowTile (dpRun.sl.v21 i) (Scalar.addi (dpRun.sl.v57 i) 7#32) (dpRun.sl.v1284 c i M0 M1 M3 f0 f1 f3)⟩ :: dpRun.sl.H2_7 c i M0 M1 M3 f0 f1 f3 := rfl

theorem run_piece8 : dpRun.sl.H2_9 c i M0 M1 M3 f0 f1 f3 =
    ⟨Rect.unit (s := S16x64x514) ![8, 0, 0] S1x64x514.size inb_S16x64x514_S1x64x514_8_0_0,
      rowTile (dpRun.sl.v21 i) (Scalar.addi (dpRun.sl.v57 i) 8#32) (dpRun.sl.v1442 c i M0 M1 M3 f0 f1 f3)⟩ :: dpRun.sl.H2_8 c i M0 M1 M3 f0 f1 f3 := rfl

theorem run_piece9 : dpRun.sl.H2_10 c i M0 M1 M3 f0 f1 f3 =
    ⟨Rect.unit (s := S16x64x514) ![9, 0, 0] S1x64x514.size inb_S16x64x514_S1x64x514_9_0_0,
      rowTile (dpRun.sl.v21 i) (Scalar.addi (dpRun.sl.v57 i) 9#32) (dpRun.sl.v1600 c i M0 M1 M3 f0 f1 f3)⟩ :: dpRun.sl.H2_9 c i M0 M1 M3 f0 f1 f3 := rfl

theorem run_piece10 : dpRun.sl.H2_11 c i M0 M1 M3 f0 f1 f3 =
    ⟨Rect.unit (s := S16x64x514) ![10, 0, 0] S1x64x514.size inb_S16x64x514_S1x64x514_10_0_0,
      rowTile (dpRun.sl.v21 i) (Scalar.addi (dpRun.sl.v57 i) 10#32) (dpRun.sl.v1758 c i M0 M1 M3 f0 f1 f3)⟩ :: dpRun.sl.H2_10 c i M0 M1 M3 f0 f1 f3 := rfl

theorem run_piece11 : dpRun.sl.H2_12 c i M0 M1 M3 f0 f1 f3 =
    ⟨Rect.unit (s := S16x64x514) ![11, 0, 0] S1x64x514.size inb_S16x64x514_S1x64x514_11_0_0,
      rowTile (dpRun.sl.v21 i) (Scalar.addi (dpRun.sl.v57 i) 11#32) (dpRun.sl.v1916 c i M0 M1 M3 f0 f1 f3)⟩ :: dpRun.sl.H2_11 c i M0 M1 M3 f0 f1 f3 := rfl

theorem run_piece12 : dpRun.sl.H2_13 c i M0 M1 M3 f0 f1 f3 =
    ⟨Rect.unit (s := S16x64x514) ![12, 0, 0] S1x64x514.size inb_S16x64x514_S1x64x514_12_0_0,
      rowTile (dpRun.sl.v21 i) (Scalar.addi (dpRun.sl.v57 i) 12#32) (dpRun.sl.v2074 c i M0 M1 M3 f0 f1 f3)⟩ :: dpRun.sl.H2_12 c i M0 M1 M3 f0 f1 f3 := rfl

theorem run_piece13 : dpRun.sl.H2_14 c i M0 M1 M3 f0 f1 f3 =
    ⟨Rect.unit (s := S16x64x514) ![13, 0, 0] S1x64x514.size inb_S16x64x514_S1x64x514_13_0_0,
      rowTile (dpRun.sl.v21 i) (Scalar.addi (dpRun.sl.v57 i) 13#32) (dpRun.sl.v2232 c i M0 M1 M3 f0 f1 f3)⟩ :: dpRun.sl.H2_13 c i M0 M1 M3 f0 f1 f3 := rfl

theorem run_piece14 : dpRun.sl.H2_15 c i M0 M1 M3 f0 f1 f3 =
    ⟨Rect.unit (s := S16x64x514) ![14, 0, 0] S1x64x514.size inb_S16x64x514_S1x64x514_14_0_0,
      rowTile (dpRun.sl.v21 i) (Scalar.addi (dpRun.sl.v57 i) 14#32) (dpRun.sl.v2390 c i M0 M1 M3 f0 f1 f3)⟩ :: dpRun.sl.H2_14 c i M0 M1 M3 f0 f1 f3 := rfl

theorem run_last : k1_pay1 (dpRun.sl.v2428 i) (dpRun.sl.v2548 c i M0 M1 M3 f0 f1 f3) (dpRun.sl.v2555 c i M0 M1 M3 f0 f1 f3)
            (dpRun.sl.v2562 c i M0 M1 M3 f0 f1 f3) (dpRun.sl.v2569 c i M0 M1 M3 f0 f1 f3) (dpRun.sl.v516 i)
            (dpRun.sl.v2571 c i M0 M1 M3 f0 f1 f3) (dpRun.sl.v518 i) =
    rowTile (dpRun.sl.v21 i) (Scalar.addi (dpRun.sl.v57 i) 15#32) (dpRun.sl.v2548 c i M0 M1 M3 f0 f1 f3) := rfl

/-! ## The scalars, in the grid coordinate -/

theorem run_lb : dpRun.sl.v21 i = BitVec.ofNat 32 (lbN (i 0).val) := by
  have key : ∀ k : Fin 34, ∀ j : grid1.Coords, j 0 = k → dpRun.sl.v21 j = BitVec.ofNat 32 (lbN k.val) := by
    intro k j hj
    simp only [dpRun.sl.v21, dpRun.sl.v20, dpRun.sl.v19, dpRun.sl.v18, dpRun.sl.v17, dpRun.sl.v16, dpRun.sl.v15, dpRun.sl.v14, dpRun.sl.v8,
      dpRun.sl.v7, dpRun.sl.v6, dpRun.sl.v5, dpRun.sl.v4, dpRun.sl.v3, dpRun.sl.v2, dpRun.sl.v1, hj]
    clear hj; revert k; decide
  exact key (i 0) i rfl

theorem run_orow (r : ℕ) : Scalar.addi (dpRun.sl.v57 i) (BitVec.ofNat 32 r) = orowN (i 0).val r := by
  show BitVec.ofNat 32 (i 0).val * 16#32 + BitVec.ofNat 32 r = _
  rw [← BitVec.ofNat_mul, ← BitVec.ofNat_add, Nat.mul_comm]

theorem run_irow (r : ℕ) : Scalar.subi (Scalar.addi (dpRun.sl.v57 i) (BitVec.ofNat 32 r)) 1#32 = irowN (i 0).val r := by
  rw [run_orow]; rfl

theorem run_jw : dpRun.sl.v56 i = jwN (i 0).val := by
  funext y
  show (iota .tc S64x256 32 [1] iota_S64x256_d1_w32) y + Scalar.muli (dpRun.sl.v21 i) 128#32 = _
  rw [run_lb]
  show _ + BitVec.ofNat 32 (lbN (i 0).val) * 128#32 = _
  rw [← BitVec.ofNat_mul, iota_single_apply]; rfl

theorem run_first : dpRun.sl.v25 i = 1#1 ↔ (i 0).val = 0 := by
  have key : ∀ k : Fin 34, ∀ j : grid1.Coords, j 0 = k → (dpRun.sl.v25 j = 1#1 ↔ k.val = 0) := by
    intro k j hj
    simp only [dpRun.sl.v25, dpRun.sl.v24, dpRun.sl.v23, hj]
    clear hj; revert k; decide
  exact key (i 0) i rfl

theorem run_prev (s : FVec F S64x256 .f32) :
    k1_pay4 (dpRun.sl.v21 i) (dpRun.sl.v28 i) 128#32 (dpRun.sl.v29 i) (dpRun.sl.v34 i) 1#1 s = prevIn (i 0).val s := by
  have key : ∀ k : Fin 34, ∀ j : grid1.Coords, j 0 = k →
      Scalar.cmpi .eq (Scalar.subi (BitVec.ofNat 32 (lbN k.val)) (Scalar.minsi 2#32 (Scalar.maxsi 0#32 (Scalar.select
        (Scalar.andi (Scalar.cmpi .ne (dpRun.sl.v34 j) (Scalar.subi (Scalar.extui 1#1) (Scalar.extui (Scalar.cmpi .slt 128#32 0#32))))
          (Scalar.cmpi .ne (Scalar.remsi (dpRun.sl.v28 j) 128#32) 0#32))
        (Scalar.subi (dpRun.sl.v29 j) 1#32) (dpRun.sl.v29 j))))) 1#32 = BitVec.ofBool (decide (lbN (k.val - 1) + 1 = lbN k.val)) := by
    intro k j hj
    simp only [dpRun.sl.v34, dpRun.sl.v33, dpRun.sl.v32, dpRun.sl.v31, dpRun.sl.v30, dpRun.sl.v29, dpRun.sl.v28, dpRun.sl.v27, dpRun.sl.v26,
      hj]
    clear hj; revert k; decide
  unfold k1_pay4
  simp only [run_lb]
  rw [key (i 0) i rfl]
  unfold prevIn
  by_cases h : lbN ((i 0).val - 1) + 1 = lbN (i 0).val
  · rw [if_pos h, decide_eq_true h]; rfl
  · rw [if_neg h, decide_eq_false h]; rfl

end Cert.KernelIdeal.Hand

end
-- ==== Proof.DpBody.lean ====
/-
  The dynamic-programming kernel's body at one grid point, with what it leaves named: from the two blocks of distances and
  the row kept from the chunk before, it writes `chunkOut` and keeps the chunk's last row.
-/
module

public import proofs.«01_k».proof.Proof.DpEq
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- A load of one row of a block reads that row. -/
theorem ld_row {c : Dev nD} (M : Memref sig .tc .vmem S16x64x128 .bf16) (f : Bf (F := F) c M) (r : ℕ) (hr : r < 16)
    (inb : ∀ a, (![r, 0, 0] : Fin 3 → ℕ) a + S1x64x128.size a ≤ S16x64x128.size a) :
    View.readAt (Elt F) M.view (Rect.unit (s := S16x64x128) ![r, 0, 0] S1x64x128.size inb).toLoadRect f = rowAt (M.view.read (Elt F) f) r := by
  funext y
  rw [View.readAt_apply]
  refine congrArg (M.view.read (Elt F) f) (funext fun a => Fin.ext ?_)
  have h0 : (y 0).val = 0 := by have := (y 0).isLt; change (y 0).val < 1 at this; omega
  fin_cases a
  · show r + 1 * (y 0).val = r % 16
    rw [h0, Nat.mod_eq_of_lt hr]; omega
  · show 0 + 1 * (y 1).val = (y 1).val
    omega
  · show 0 + 1 * (y 2).val = (y 2).val
    omega

/-- The row chunk `n` starts from: all infinity at the first chunk, the kept row after. -/
def startRow (n : ℕ) (s : FVec F S64x256 .f32) : FVec F S64x256 .f32 := if n = 0 then broadcast S64x256 infF else s

variable (c : Dev nD) (i : grid1.Coords) (M0 M1 : Memref sig .tc .vmem S16x64x128 .bf16) (M2 : Memref sig .tc .vmem S16x64x514 .f32)
  (M3 : Memref sig .tc .vmem S64x256 .f32)
  (f0 : Bf (F := F) c M0) (f1 : Bf (F := F) c M1) (f2 : Bf (F := F) c M2) (f3 : Bf (F := F) c M3)

theorem pay3_eq : k1_pay3 (F := F) = broadcast S64x256 infF := by
  unfold k1_pay3
  exact funext fun _ => rfl

theorem run_start : dpRun.sl.v49 c i M3 f3 = startRow (i 0).val (M3.view.read (Elt F) f3) := by
  unfold dpRun.sl.v49 startRow
  by_cases h : dpRun.sl.v25 i = 1#1
  · rw [dif_pos h, if_pos ((run_first i).mp h)]
    exact (View.readAt_writes_full M3.view f3 _ _ _ []).trans pay3_eq
  · rw [dif_neg h, if_neg fun h' => h ((run_first i).mpr h')]
    exact View.readAt_full M3.view f3 _

/-- What the chunk's rows are computed from: the two blocks read and the starting row. -/
abbrev rowsOf (r : ℕ) : FVec F S64x256 .f32 :=
  chunkRow (i 0).val (M0.view.read (Elt F) f0) (M1.view.read (Elt F) f1) (startRow (i 0).val (M3.view.read (Elt F) f3)) r

theorem rows_0 : dpRun.sl.v178 c i M0 M1 M3 f0 f1 f3 = rowsOf c i M0 M1 M3 f0 f1 f3 0 := by
  rw [run_row0, run_jw, run_irow i 0, show dpRun.sl.v54 c i M3 f3 = prevIn (i 0).val (startRow (i 0).val (M3.view.read (Elt F) f3)) from
    (run_prev i _).trans (congrArg _ (run_start c i M3 f3)), ld_row M0 f0 0 (by decide), ld_row M1 f1 0 (by decide)]; rfl

theorem rows_1 : dpRun.sl.v336 c i M0 M1 M3 f0 f1 f3 = rowsOf c i M0 M1 M3 f0 f1 f3 1 := by
  rw [run_row1, run_jw, run_irow i 1, rows_0, ld_row M0 f0 1 (by decide), ld_row M1 f1 1 (by decide)]; rfl

theorem rows_2 : dpRun.sl.v494 c i M0 M1 M3 f0 f1 f3 = rowsOf c i M0 M1 M3 f0 f1 f3 2 := by
  rw [run_row2, run_jw, run_irow i 2, rows_1, ld_row M0 f0 2 (by decide), ld_row M1 f1 2 (by decide)]; rfl

theorem rows_3 : dpRun.sl.v652 c i M0 M1 M3 f0 f1 f3 = rowsOf c i M0 M1 M3 f0 f1 f3 3 := by
  rw [run_row3, run_jw, run_irow i 3, rows_2, ld_row M0 f0 3 (by decide), ld_row M1 f1 3 (by decide)]; rfl

theorem rows_4 : dpRun.sl.v810 c i M0 M1 M3 f0 f1 f3 = rowsOf c i M0 M1 M3 f0 f1 f3 4 := by
  rw [run_row4, run_jw, run_irow i 4, rows_3, ld_row M0 f0 4 (by decide), ld_row M1 f1 4 (by decide)]; rfl

theorem rows_5 : dpRun.sl.v968 c i M0 M1 M3 f0 f1 f3 = rowsOf c i M0 M1 M3 f0 f1 f3 5 := by
  rw [run_row5, run_jw, run_irow i 5, rows_4, ld_row M0 f0 5 (by decide), ld_row M1 f1 5 (by decide)]; rfl

theorem rows_6 : dpRun.sl.v1126 c i M0 M1 M3 f0 f1 f3 = rowsOf c i M0 M1 M3 f0 f1 f3 6 := by
  rw [run_row6, run_jw, run_irow i 6, rows_5, ld_row M0 f0 6 (by decide), ld_row M1 f1 6 (by decide)]; rfl

theorem rows_7 : dpRun.sl.v1284 c i M0 M1 M3 f0 f1 f3 = rowsOf c i M0 M1 M3 f0 f1 f3 7 := by
  rw [run_row7, run_jw, run_irow i 7, rows_6, ld_row M0 f0 7 (by decide), ld_row M1 f1 7 (by decide)]; rfl

theorem rows_8 : dpRun.sl.v1442 c i M0 M1 M3 f0 f1 f3 = rowsOf c i M0 M1 M3 f0 f1 f3 8 := by
  rw [run_row8, run_jw, run_irow i 8, rows_7, ld_row M0 f0 8 (by decide), ld_row M1 f1 8 (by decide)]; rfl

theorem rows_9 : dpRun.sl.v1600 c i M0 M1 M3 f0 f1 f3 = rowsOf c i M0 M1 M3 f0 f1 f3 9 := by
  rw [run_row9, run_jw, run_irow i 9, rows_8, ld_row M0 f0 9 (by decide), ld_row M1 f1 9 (by decide)]; rfl

theorem rows_10 : dpRun.sl.v1758 c i M0 M1 M3 f0 f1 f3 = rowsOf c i M0 M1 M3 f0 f1 f3 10 := by
  rw [run_row10, run_jw, run_irow i 10, rows_9, ld_row M0 f0 10 (by decide), ld_row M1 f1 10 (by decide)]; rfl

theorem rows_11 : dpRun.sl.v1916 c i M0 M1 M3 f0 f1 f3 = rowsOf c i M0 M1 M3 f0 f1 f3 11 := by
  rw [run_row11, run_jw, run_irow i 11, rows_10, ld_row M0 f0 11 (by decide), ld_row M1 f1 11 (by decide)]; rfl

theorem rows_12 : dpRun.sl.v2074 c i M0 M1 M3 f0 f1 f3 = rowsOf c i M0 M1 M3 f0 f1 f3 12 := by
  rw [run_row12, run_jw, run_irow i 12, rows_11, ld_row M0 f0 12 (by decide), ld_row M1 f1 12 (by decide)]; rfl

theorem rows_13 : dpRun.sl.v2232 c i M0 M1 M3 f0 f1 f3 = rowsOf c i M0 M1 M3 f0 f1 f3 13 := by
  rw [run_row13, run_jw, run_irow i 13, rows_12, ld_row M0 f0 13 (by decide), ld_row M1 f1 13 (by decide)]; rfl

theorem rows_14 : dpRun.sl.v2390 c i M0 M1 M3 f0 f1 f3 = rowsOf c i M0 M1 M3 f0 f1 f3 14 := by
  rw [run_row14, run_jw, run_irow i 14, rows_13, ld_row M0 f0 14 (by decide), ld_row M1 f1 14 (by decide)]; rfl

theorem rows_15 : dpRun.sl.v2548 c i M0 M1 M3 f0 f1 f3 = rowsOf c i M0 M1 M3 f0 f1 f3 15 := by
  rw [run_row15, run_jw, run_irow i 15, rows_14, ld_row M0 f0 15 (by decide), ld_row M1 f1 15 (by decide)]; rfl

/-- The stores the body leaves in the output block. -/
abbrev outPieces : List (View.Piece (Elt F) S16x64x514 .f32) :=
  (⟨Rect.unit (s := S16x64x514) ![15, 0, 0] S1x64x514.size inb_S16x64x514_S1x64x514_15_0_0,
          k1_pay1 (dpRun.sl.v2428 i) (dpRun.sl.v2548 c i M0 M1 M3 f0 f1 f3) (dpRun.sl.v2555 c i M0 M1 M3 f0 f1 f3)
            (dpRun.sl.v2562 c i M0 M1 M3 f0 f1 f3) (dpRun.sl.v2569 c i M0 M1 M3 f0 f1 f3) (dpRun.sl.v516 i)
            (dpRun.sl.v2571 c i M0 M1 M3 f0 f1 f3) (dpRun.sl.v518 i)⟩ ::
        dpRun.sl.H2_15 c i M0 M1 M3 f0 f1 f3)

/-- The store of row `r`. -/
def pieceN (n r : ℕ) (inb : ∀ a, (![r, 0, 0] : Fin 3 → ℕ) a + S1x64x514.size a ≤ S16x64x514.size a) (v : FVec F S64x256 .f32) :
    View.Piece (Elt F) S16x64x514 .f32 :=
  ⟨Rect.unit (s := S16x64x514) ![r, 0, 0] S1x64x514.size inb, rowTile (BitVec.ofNat 32 (lbN n)) (orowN n r) v⟩

theorem outPieces_eq : outPieces c i M0 M1 M3 f0 f1 f3 =
    [pieceN (i 0).val 15 inb_S16x64x514_S1x64x514_15_0_0 (rowsOf c i M0 M1 M3 f0 f1 f3 15),
      pieceN (i 0).val 14 inb_S16x64x514_S1x64x514_14_0_0 (rowsOf c i M0 M1 M3 f0 f1 f3 14),
      pieceN (i 0).val 13 inb_S16x64x514_S1x64x514_13_0_0 (rowsOf c i M0 M1 M3 f0 f1 f3 13),
      pieceN (i 0).val 12 inb_S16x64x514_S1x64x514_12_0_0 (rowsOf c i M0 M1 M3 f0 f1 f3 12),
      pieceN (i 0).val 11 inb_S16x64x514_S1x64x514_11_0_0 (rowsOf c i M0 M1 M3 f0 f1 f3 11),
      pieceN (i 0).val 10 inb_S16x64x514_S1x64x514_10_0_0 (rowsOf c i M0 M1 M3 f0 f1 f3 10),
      pieceN (i 0).val 9 inb_S16x64x514_S1x64x514_9_0_0 (rowsOf c i M0 M1 M3 f0 f1 f3 9),
      pieceN (i 0).val 8 inb_S16x64x514_S1x64x514_8_0_0 (rowsOf c i M0 M1 M3 f0 f1 f3 8),
      pieceN (i 0).val 7 inb_S16x64x514_S1x64x514_7_0_0 (rowsOf c i M0 M1 M3 f0 f1 f3 7),
      pieceN (i 0).val 6 inb_S16x64x514_S1x64x514_6_0_0 (rowsOf c i M0 M1 M3 f0 f1 f3 6),
      pieceN (i 0).val 5 inb_S16x64x514_S1x64x514_5_0_0 (rowsOf c i M0 M1 M3 f0 f1 f3 5),
      pieceN (i 0).val 4 inb_S16x64x514_S1x64x514_4_0_0 (rowsOf c i M0 M1 M3 f0 f1 f3 4),
      pieceN (i 0).val 3 inb_S16x64x514_S1x64x514_3_0_0 (rowsOf c i M0 M1 M3 f0 f1 f3 3),
      pieceN (i 0).val 2 inb_S16x64x514_S1x64x514_2_0_0 (rowsOf c i M0 M1 M3 f0 f1 f3 2),
      pieceN (i 0).val 1 inb_S16x64x514_S1x64x514_1_0_0 (rowsOf c i M0 M1 M3 f0 f1 f3 1),
      pieceN (i 0).val 0 inb_S16x64x514_S1x64x514_0_0_0 (rowsOf c i M0 M1 M3 f0 f1 f3 0)] := by
  unfold outPieces
  rw [run_last]
  rw [run_piece14]
  rw [run_piece13]
  rw [run_piece12]
  rw [run_piece11]
  rw [run_piece10]
  rw [run_piece9]
  rw [run_piece8]
  rw [run_piece7]
  rw [run_piece6]
  rw [run_piece5]
  rw [run_piece4]
  rw [run_piece3]
  rw [run_piece2]
  rw [run_piece1]
  rw [run_piece0]
  rw [run_lb, rows_0, rows_1, rows_2, rows_3, rows_4, rows_5, rows_6, rows_7, rows_8, rows_9, rows_10, rows_11, rows_12, rows_13, rows_14, rows_15,
    run_orow i 0, run_orow i 1, run_orow i 2, run_orow i 3, run_orow i 4, run_orow i 5, run_orow i 6, run_orow i 7, run_orow i 8, run_orow i 9, run_orow i 10, run_orow i 11, run_orow i 12, run_orow i 13, run_orow i 14, run_orow i 15]
  rfl

/-- A row's tile at (0, b, j) is the row laid out at (b, j). -/
theorem rowTile_apply (lb orow : BitVec 32) (v : FVec F S64x256 .f32) (x : S1x64x514.Idx) :
    rowTile lb orow v x = rowFull lb orow v (fun a => match a with | 0 => x 1 | 1 => x 2) := by
  unfold rowTile
  exact (shapeCast_addUnit_apply _ _ shapeCasts_S64x514_S1x64x514 x).trans
    (congrArg _ (funext fun a => match a with | 0 => rfl | 1 => rfl))

theorem piece_agrees (n r : ℕ) (inb) (x0 x1 : Vec F S16x64x128 .bf16) (s : FVec F S64x256 .f32)
    (x : (Rect.unit (s := S16x64x514) ![r, 0, 0] S1x64x514.size inb).shape.Idx) :
    rowTile (BitVec.ofNat 32 (lbN n)) (orowN n r) (chunkRow n x0 x1 s r) x
      = chunkOut n x0 x1 s ((Rect.unit (s := S16x64x514) ![r, 0, 0] S1x64x514.size inb).emb x) := by
  refine (rowTile_apply _ _ _ x).trans ?_
  have h0 : (((Rect.unit (s := S16x64x514) ![r, 0, 0] S1x64x514.size inb).emb x) 0).val = r := by
    show r + 1 * (x 0).val = r
    have : (x 0).val < 1 := (x 0).isLt
    omega
  unfold chunkOut
  rw [h0]
  refine congrArg _ (funext fun a => Fin.ext ?_)
  match a with
  | 0 => show (x 1).val = 0 + 1 * (x 1).val; omega
  | 1 => show (x 2).val = 0 + 1 * (x 2).val; omega

/-- Every element of the block lies in the store of its row. -/
theorem mem_row (r : ℕ) (inb) (y : S16x64x514.Idx) (hy : (y 0).val = r) :
    y ∈ (Rect.unit (s := S16x64x514) ![r, 0, 0] S1x64x514.size inb).set := by
  rw [Rect.mem_set_unit]
  intro a
  fin_cases a
  · exact ⟨by show r ≤ (y 0).val; omega, by show (y 0).val < r + 1; omega⟩
  · exact ⟨Nat.zero_le _, by show (y 1).val < 0 + 64; have : (y 1).val < 64 := (y 1).isLt; omega⟩
  · exact ⟨Nat.zero_le _, by show (y 2).val < 0 + 514; have : (y 2).val < 514 := (y 2).isLt; omega⟩

/-- The block after the body, read whole. -/
theorem read_out : M2.view.read (Elt F) (M2.view.writes (Elt F) f2 (outPieces c i M0 M1 M3 f0 f1 f3)) =
    chunkOut (i 0).val (M0.view.read (Elt F) f0) (M1.view.read (Elt F) f1) (startRow (i 0).val (M3.view.read (Elt F) f3)) := by
  funext y
  rw [outPieces_eq]
  refine View.read_writes_apply_of_pieces M2.view f2 _ _ ?_ y ?_
  · intro p hp
    fin_cases hp
    · exact fun x => piece_agrees (i 0).val 15 inb_S16x64x514_S1x64x514_15_0_0 _ _ _ x
    · exact fun x => piece_agrees (i 0).val 14 inb_S16x64x514_S1x64x514_14_0_0 _ _ _ x
    · exact fun x => piece_agrees (i 0).val 13 inb_S16x64x514_S1x64x514_13_0_0 _ _ _ x
    · exact fun x => piece_agrees (i 0).val 12 inb_S16x64x514_S1x64x514_12_0_0 _ _ _ x
    · exact fun x => piece_agrees (i 0).val 11 inb_S16x64x514_S1x64x514_11_0_0 _ _ _ x
    · exact fun x => piece_agrees (i 0).val 10 inb_S16x64x514_S1x64x514_10_0_0 _ _ _ x
    · exact fun x => piece_agrees (i 0).val 9 inb_S16x64x514_S1x64x514_9_0_0 _ _ _ x
    · exact fun x => piece_agrees (i 0).val 8 inb_S16x64x514_S1x64x514_8_0_0 _ _ _ x
    · exact fun x => piece_agrees (i 0).val 7 inb_S16x64x514_S1x64x514_7_0_0 _ _ _ x
    · exact fun x => piece_agrees (i 0).val 6 inb_S16x64x514_S1x64x514_6_0_0 _ _ _ x
    · exact fun x => piece_agrees (i 0).val 5 inb_S16x64x514_S1x64x514_5_0_0 _ _ _ x
    · exact fun x => piece_agrees (i 0).val 4 inb_S16x64x514_S1x64x514_4_0_0 _ _ _ x
    · exact fun x => piece_agrees (i 0).val 3 inb_S16x64x514_S1x64x514_3_0_0 _ _ _ x
    · exact fun x => piece_agrees (i 0).val 2 inb_S16x64x514_S1x64x514_2_0_0 _ _ _ x
    · exact fun x => piece_agrees (i 0).val 1 inb_S16x64x514_S1x64x514_1_0_0 _ _ _ x
    · exact fun x => piece_agrees (i 0).val 0 inb_S16x64x514_S1x64x514_0_0_0 _ _ _ x
  · have hy : (y 0).val < 16 := (y 0).isLt
    rcases (by omega : (y 0).val = 0 ∨ (y 0).val = 1 ∨ (y 0).val = 2 ∨ (y 0).val = 3 ∨ (y 0).val = 4 ∨ (y 0).val = 5 ∨ (y 0).val = 6
      ∨ (y 0).val = 7 ∨ (y 0).val = 8 ∨ (y 0).val = 9 ∨ (y 0).val = 10 ∨ (y 0).val = 11 ∨ (y 0).val = 12 ∨ (y 0).val = 13
      ∨ (y 0).val = 14 ∨ (y 0).val = 15) with h | h | h | h | h | h | h | h | h | h | h | h | h | h | h | h
    · exact ⟨pieceN (i 0).val 0 inb_S16x64x514_S1x64x514_0_0_0 (rowsOf c i M0 M1 M3 f0 f1 f3 0), by simp, mem_row 0 inb_S16x64x514_S1x64x514_0_0_0 y h⟩
    · exact ⟨pieceN (i 0).val 1 inb_S16x64x514_S1x64x514_1_0_0 (rowsOf c i M0 M1 M3 f0 f1 f3 1), by simp, mem_row 1 inb_S16x64x514_S1x64x514_1_0_0 y h⟩
    · exact ⟨pieceN (i 0).val 2 inb_S16x64x514_S1x64x514_2_0_0 (rowsOf c i M0 M1 M3 f0 f1 f3 2), by simp, mem_row 2 inb_S16x64x514_S1x64x514_2_0_0 y h⟩
    · exact ⟨pieceN (i 0).val 3 inb_S16x64x514_S1x64x514_3_0_0 (rowsOf c i M0 M1 M3 f0 f1 f3 3), by simp, mem_row 3 inb_S16x64x514_S1x64x514_3_0_0 y h⟩
    · exact ⟨pieceN (i 0).val 4 inb_S16x64x514_S1x64x514_4_0_0 (rowsOf c i M0 M1 M3 f0 f1 f3 4), by simp, mem_row 4 inb_S16x64x514_S1x64x514_4_0_0 y h⟩
    · exact ⟨pieceN (i 0).val 5 inb_S16x64x514_S1x64x514_5_0_0 (rowsOf c i M0 M1 M3 f0 f1 f3 5), by simp, mem_row 5 inb_S16x64x514_S1x64x514_5_0_0 y h⟩
    · exact ⟨pieceN (i 0).val 6 inb_S16x64x514_S1x64x514_6_0_0 (rowsOf c i M0 M1 M3 f0 f1 f3 6), by simp, mem_row 6 inb_S16x64x514_S1x64x514_6_0_0 y h⟩
    · exact ⟨pieceN (i 0).val 7 inb_S16x64x514_S1x64x514_7_0_0 (rowsOf c i M0 M1 M3 f0 f1 f3 7), by simp, mem_row 7 inb_S16x64x514_S1x64x514_7_0_0 y h⟩
    · exact ⟨pieceN (i 0).val 8 inb_S16x64x514_S1x64x514_8_0_0 (rowsOf c i M0 M1 M3 f0 f1 f3 8), by simp, mem_row 8 inb_S16x64x514_S1x64x514_8_0_0 y h⟩
    · exact ⟨pieceN (i 0).val 9 inb_S16x64x514_S1x64x514_9_0_0 (rowsOf c i M0 M1 M3 f0 f1 f3 9), by simp, mem_row 9 inb_S16x64x514_S1x64x514_9_0_0 y h⟩
    · exact ⟨pieceN (i 0).val 10 inb_S16x64x514_S1x64x514_10_0_0 (rowsOf c i M0 M1 M3 f0 f1 f3 10), by simp, mem_row 10 inb_S16x64x514_S1x64x514_10_0_0 y h⟩
    · exact ⟨pieceN (i 0).val 11 inb_S16x64x514_S1x64x514_11_0_0 (rowsOf c i M0 M1 M3 f0 f1 f3 11), by simp, mem_row 11 inb_S16x64x514_S1x64x514_11_0_0 y h⟩
    · exact ⟨pieceN (i 0).val 12 inb_S16x64x514_S1x64x514_12_0_0 (rowsOf c i M0 M1 M3 f0 f1 f3 12), by simp, mem_row 12 inb_S16x64x514_S1x64x514_12_0_0 y h⟩
    · exact ⟨pieceN (i 0).val 13 inb_S16x64x514_S1x64x514_13_0_0 (rowsOf c i M0 M1 M3 f0 f1 f3 13), by simp, mem_row 13 inb_S16x64x514_S1x64x514_13_0_0 y h⟩
    · exact ⟨pieceN (i 0).val 14 inb_S16x64x514_S1x64x514_14_0_0 (rowsOf c i M0 M1 M3 f0 f1 f3 14), by simp, mem_row 14 inb_S16x64x514_S1x64x514_14_0_0 y h⟩
    · exact ⟨pieceN (i 0).val 15 inb_S16x64x514_S1x64x514_15_0_0 (rowsOf c i M0 M1 M3 f0 f1 f3 15), by simp, mem_row 15 inb_S16x64x514_S1x64x514_15_0_0 y h⟩

/-- The kept row's buffer after the body. -/
abbrev keptBuf : Bf (F := F) c M3 := M3.view.writes (Elt F)
      (if hc : dpRun.sl.v25 i = 1#1 then
        M3.view.writes (Elt F) f3 [⟨Rect.unit ![0, 0] S64x256.size inb_S64x256_S64x256_0_0, k1_pay3⟩]
      else f3)
      [⟨Rect.unit ![0, 0] S64x256.size inb_S64x256_S64x256_0_0, k1_pay2 (dpRun.sl.v2548 c i M0 M1 M3 f0 f1 f3)⟩]

/-- The kept row after the body. -/
theorem read_kept : M3.view.read (Elt F) (keptBuf c i M0 M1 M3 f0 f1 f3) =
    chunkRow (i 0).val (M0.view.read (Elt F) f0) (M1.view.read (Elt F) f1) (startRow (i 0).val (M3.view.read (Elt F) f3)) 15 := by
  refine (View.read_writes_full M3.view _ _ _ []).trans ?_
  unfold k1_pay2
  exact (shapeCast_self _ _).trans (rows_15 c i M0 M1 M3 f0 f1 f3)

/-- The run, what it leaves spelled out. -/
theorem dpRun_clean (h0 : M0.IsWhole) (h1 : M1.IsWhole) (h2 : M2.IsWhole) (h3 : M3.IsWhole) (Q : PUnit → sProp 𝕄) :
    iprop(pt c M0 f0 ∗ pt c M1 f1 ∗ pt c M2 f2 ∗ pt c M3 f3
        ∗ (iprop(pt c M0 f0 ∗ pt c M1 f1 ∗ pt c M2 (M2.view.writes (Elt F) f2 (outPieces c i M0 M1 M3 f0 f1 f3))
            ∗ pt c M3 (keptBuf c i M0 M1 M3 f0 f1 f3)) -∗ Q ⟨⟩))
      ⊢ wp frame (wpE (defs₀ (F := F)) Variants.none c none) Set.univ
          (cc1_dtw_dp i M0 h0 M1 h1 M2 h2 M3 h3) Q :=
  (dpRun c i M0 h0 M1 h1 M2 h2 M3 h3 f0 f1 f3).2 f2 Q

/-- The body at a grid point, from the two blocks, the output block at anything and the kept row: it leaves the output
    block at `chunkOut` and the kept row at the chunk's last. -/
theorem dpBody (h0 : M0.IsWhole) (h1 : M1.IsWhole) (h2 : M2.IsWhole) (h3 : M3.IsWhole)
    (x0 x1 : Vec F S16x64x128 .bf16) (s : FVec F S64x256 .f32) (Q : PUnit → sProp 𝕄) :
    iprop(owns (c : Thread nD τ) M0 fullShare x0 ∗ owns (c : Thread nD τ) M1 fullShare x1 ∗ (∃ d, owns (c : Thread nD τ) M2 fullShare d)
      ∗ owns (c : Thread nD τ) M3 fullShare s
      ∗ (iprop(owns (c : Thread nD τ) M0 fullShare x0 ∗ owns (c : Thread nD τ) M1 fullShare x1
          ∗ owns (c : Thread nD τ) M2 fullShare (chunkOut (i 0).val x0 x1 (startRow (i 0).val s))
          ∗ owns (c : Thread nD τ) M3 fullShare (chunkRow (i 0).val x0 x1 (startRow (i 0).val s) 15)) -∗ Q ⟨⟩))
    ⊢ wp frame (wpE (defs₀ (F := F)) Variants.none c none) Set.univ
        (cc1_dtw_dp i M0 h0 M1 h1 M2 h2 M3 h3) Q := by
  unfold owns
  iintro ⟨⟨%f0, %e0, H0⟩, ⟨%f1, %e1, H1⟩, ⟨%d2, %f2, -, H2⟩, ⟨%f3, %e3, H3⟩, Hk⟩
  subst e0 e1 e3
  iapply (dpRun_clean c i M0 M1 M2 M3 f0 f1 f2 f3 h0 h1 h2 h3 Q)
  isplitl [H0]; · iexact H0
  isplitl [H1]; · iexact H1
  isplitl [H2]; · iexact H2
  isplitl [H3]; · iexact H3
  iintro ⟨H0, H1, H2, H3⟩
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; exact read_out c i M0 M1 M2 M3 f0 f1 f2 f3
  iexists _; isplitr; swap; · iexact H3
  ipureintro; exact read_kept c i M0 M1 M3 f0 f1 f3

end Cert.KernelIdeal.Hand

end
-- ==== Proof.SqBody.lean ====
/-
  The squared-distance kernel's body at one grid point, run once and with what it leaves named: four batches' distance
  matrices (`sqBlock`, one matrix product of augmented operands each).
-/
module

public import proofs.«01_k».proof.Proof.DpRun
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

/-- The squared distances of one batch: the product of (−2x, |x|², 1) with (y, 1, |y|²), contracted over the last axis. -/
def sqBlock (a b : Vec F S1x512x8 .f32) : FVec F S512x512 .bf16 :=
  have x : FVec F S512x8 .f32 := shapeCast S512x8 a shapeCasts_S1x512x8_S512x8
  have y : FVec F S512x8 .f32 := shapeCast S512x8 b shapeCasts_S1x512x8_S512x8
  have x2 : FVec F S512x1 .f32 := shapeCast S512x1 (multiReduction .add [1] S512 (mulf x x) 0x00000000#32 reduces_S512x8_S512 (.inl rfl) rfl) shapeCasts_S512_S512x1
  have y2 : FVec F S512x1 .f32 := shapeCast S512x1 (multiReduction .add [1] S512 (mulf y y) 0x00000000#32 reduces_S512x8_S512 (.inl rfl) rfl) shapeCasts_S512_S512x1
  have one : FVec F S512x1 .f32 := broadcast S512x1 (Scalar.ofBits .f32 0x3F800000#32)
  have xx : FVec F S512x10 .f32 := concatenate S512x10 1 [⟨S512x8, mulf x (broadcast S512x8 (Scalar.ofBits .f32 0xC0000000#32))⟩, ⟨S512x1, x2⟩, ⟨S512x1, one⟩]
    concatenates_S512x8_S512x1_S512x1_S512x10_d1
  have yy : FVec F S512x10 .f32 := concatenate S512x10 1 [⟨S512x8, y⟩, ⟨S512x1, one⟩, ⟨S512x1, y2⟩] concatenates_S512x8_S512x1_S512x1_S512x10_d1
  truncf .bf16 (matmul dot_S512x10_S512x10_S512x512_1_1_0_0_n_n none xx yy (constant S512x512 .f32 0x00000000#32)) bitsLt_bf16_f32

/-- The same as a block of one batch. -/
def sqTile (a b : Vec F S1x512x8 .f32) : FVec F S1x512x512 .bf16 := shapeCast S1x512x512 (sqBlock a b) shapeCasts_S512x512_S1x512x512

/-- Batch `r` of a block of four, as a block of one. -/
def batchAt (x : Vec F S4x512x8 .f32) (r : ℕ) : Vec F S1x512x8 .f32 :=
  fun y => x (fun a => match a with
    | 0 => ⟨r % 4, Nat.mod_lt _ (by decide)⟩
    | 1 => y 1
    | 2 => y 2)

/-- The block a grid point writes. -/
def sqOut (x0 x1 : Vec F S4x512x8 .f32) : Vec F S4x512x512 .bf16 :=
  fun y => sqBlock (batchAt x0 (y 0).val) (batchAt x1 (y 0).val) (fun a => match a with | 0 => y 1 | 1 => y 2)

/-- What the body leaves in its output block (the stores), with the proof that it runs to its return leaving that. -/
def sqRun (c : Dev nD) (i : grid0.Coords) (M0 : Memref sig .tc .vmem S4x512x8 .f32) (h0 : M0.IsWhole)
    (M1 : Memref sig .tc .vmem S4x512x8 .f32) (h1 : M1.IsWhole) (M2 : Memref sig .tc .vmem S4x512x512 .bf16) (h2 : M2.IsWhole)
    (f0 : Bf (F := F) c M0) (f1 : Bf (F := F) c M1) :
    { W : List (View.Piece (Elt F) S4x512x512 .bf16) //
      ∀ (f2 : Bf (F := F) c M2) (Q : PUnit → sProp 𝕄),
      iprop(pt c M0 f0 ∗ pt c M1 f1 ∗ pt c M2 f2
        ∗ (iprop(pt c M0 f0 ∗ pt c M1 f1 ∗ pt c M2 (M2.view.writes (Elt F) f2 W)) -∗ Q ⟨⟩))
      ⊢ wp frame (wpE (defs₀ (F := F)) Variants.none c none) Set.univ
          (cc0_sqdist i M0 h0 M1 h1 M2 h2) Q } := by
  refine ⟨?_, fun f2 Q => ?run⟩
  case run =>
    iintro ⟨H0, H1, H2, Hk⟩
    sl_unfold [cc0_sqdist]
    set_option sl_exec.resultNames true in
    sl_exec_parts
    sl_step
    iapply Hk
    isplitl [H0]; · iexact H0
    isplitl [H1]; · iexact H1
    iexact H2

/-- A load of one batch of a block reads that batch. -/
theorem ld_batch {c : Dev nD} (M : Memref sig .tc .vmem S4x512x8 .f32) (f : Bf (F := F) c M) (r : ℕ) (hr : r < 4)
    (inb : ∀ a, (![r, 0, 0] : Fin 3 → ℕ) a + S1x512x8.size a ≤ S4x512x8.size a) :
    View.readAt (Elt F) M.view (Rect.unit (s := S4x512x8) ![r, 0, 0] S1x512x8.size inb).toLoadRect f = batchAt (M.view.read (Elt F) f) r := by
  funext y
  rw [View.readAt_apply]
  refine congrArg (M.view.read (Elt F) f) (funext fun a => Fin.ext ?_)
  have h0 : (y 0).val = 0 := by have := (y 0).isLt; change (y 0).val < 1 at this; omega
  fin_cases a
  · show r + 1 * (y 0).val = r % 4
    rw [h0, Nat.mod_eq_of_lt hr]; omega
  · show 0 + 1 * (y 1).val = (y 1).val
    omega
  · show 0 + 1 * (y 2).val = (y 2).val
    omega

variable (c : Dev nD) (i : grid0.Coords) (M0 M1 : Memref sig .tc .vmem S4x512x8 .f32) (M2 : Memref sig .tc .vmem S4x512x512 .bf16)
  (f0 : Bf (F := F) c M0) (f1 : Bf (F := F) c M1) (f2 : Bf (F := F) c M2)

/-- The store of batch `r`. -/
def sqPiece (r : ℕ) (inb : ∀ a, (![r, 0, 0] : Fin 3 → ℕ) a + S1x512x512.size a ≤ S4x512x512.size a) (a b : Vec F S1x512x8 .f32) :
    View.Piece (Elt F) S4x512x512 .bf16 :=
  ⟨Rect.unit (s := S4x512x512) ![r, 0, 0] S1x512x512.size inb, sqTile a b⟩

/-- The stores the body leaves in the output block. -/
def sqPieces : List (View.Piece (Elt F) S4x512x512 .bf16) :=
  [sqPiece 3 inb_S4x512x512_S1x512x512_3_0_0
      (View.readAt (Elt F) M0.view (Rect.unit (s := S4x512x8) ![3, 0, 0] S1x512x8.size inb_S4x512x8_S1x512x8_3_0_0).toLoadRect f0)
      (View.readAt (Elt F) M1.view (Rect.unit (s := S4x512x8) ![3, 0, 0] S1x512x8.size inb_S4x512x8_S1x512x8_3_0_0).toLoadRect f1),
    sqPiece 2 inb_S4x512x512_S1x512x512_2_0_0
      (View.readAt (Elt F) M0.view (Rect.unit (s := S4x512x8) ![2, 0, 0] S1x512x8.size inb_S4x512x8_S1x512x8_2_0_0).toLoadRect f0)
      (View.readAt (Elt F) M1.view (Rect.unit (s := S4x512x8) ![2, 0, 0] S1x512x8.size inb_S4x512x8_S1x512x8_2_0_0).toLoadRect f1),
    sqPiece 1 inb_S4x512x512_S1x512x512_1_0_0
      (View.readAt (Elt F) M0.view (Rect.unit (s := S4x512x8) ![1, 0, 0] S1x512x8.size inb_S4x512x8_S1x512x8_1_0_0).toLoadRect f0)
      (View.readAt (Elt F) M1.view (Rect.unit (s := S4x512x8) ![1, 0, 0] S1x512x8.size inb_S4x512x8_S1x512x8_1_0_0).toLoadRect f1),
    sqPiece 0 inb_S4x512x512_S1x512x512_0_0_0
      (View.readAt (Elt F) M0.view (Rect.unit (s := S4x512x8) ![0, 0, 0] S1x512x8.size inb_S4x512x8_S1x512x8_0_0_0).toLoadRect f0)
      (View.readAt (Elt F) M1.view (Rect.unit (s := S4x512x8) ![0, 0, 0] S1x512x8.size inb_S4x512x8_S1x512x8_0_0_0).toLoadRect f1)]

theorem sqRun_pieces (h0 : M0.IsWhole) (h1 : M1.IsWhole) (h2 : M2.IsWhole) :
    (sqRun c i M0 h0 M1 h1 M2 h2 f0 f1).1 = sqPieces c M0 M1 f0 f1 := rfl

/-- A batch's tile at (0, p, q) is the batch's block at (p, q). -/
theorem sqTile_apply (a b : Vec F S1x512x8 .f32) (x : S1x512x512.Idx) :
    sqTile a b x = sqBlock a b (fun a => match a with | 0 => x 1 | 1 => x 2) := by
  unfold sqTile
  exact (shapeCast_addUnit_apply _ _ shapeCasts_S512x512_S1x512x512 x).trans
    (congrArg _ (funext fun a => match a with | 0 => rfl | 1 => rfl))

theorem sq_agrees (r : ℕ) (inb) (x0 x1 : Vec F S4x512x8 .f32)
    (x : (Rect.unit (s := S4x512x512) ![r, 0, 0] S1x512x512.size inb).shape.Idx) :
    sqTile (batchAt x0 r) (batchAt x1 r) x = sqOut x0 x1 ((Rect.unit (s := S4x512x512) ![r, 0, 0] S1x512x512.size inb).emb x) := by
  refine (sqTile_apply _ _ x).trans ?_
  have h0 : (((Rect.unit (s := S4x512x512) ![r, 0, 0] S1x512x512.size inb).emb x) 0).val = r := by
    show r + 1 * (x 0).val = r
    have : (x 0).val < 1 := (x 0).isLt
    omega
  unfold sqOut
  rw [h0]
  refine congrArg _ (funext fun a => Fin.ext ?_)
  match a with
  | 0 => show (x 1).val = 0 + 1 * (x 1).val; omega
  | 1 => show (x 2).val = 0 + 1 * (x 2).val; omega

theorem mem_batch (r : ℕ) (inb) (y : S4x512x512.Idx) (hy : (y 0).val = r) :
    y ∈ (Rect.unit (s := S4x512x512) ![r, 0, 0] S1x512x512.size inb).set := by
  rw [Rect.mem_set_unit]
  intro a
  fin_cases a
  · exact ⟨by show r ≤ (y 0).val; omega, by show (y 0).val < r + 1; omega⟩
  · exact ⟨Nat.zero_le _, by show (y 1).val < 0 + 512; have : (y 1).val < 512 := (y 1).isLt; omega⟩
  · exact ⟨Nat.zero_le _, by show (y 2).val < 0 + 512; have : (y 2).val < 512 := (y 2).isLt; omega⟩

/-- The block after the body, read whole. -/
theorem read_sq : M2.view.read (Elt F) (M2.view.writes (Elt F) f2 (sqPieces c M0 M1 f0 f1)) =
    sqOut (M0.view.read (Elt F) f0) (M1.view.read (Elt F) f1) := by
  funext y
  unfold sqPieces
  rw [ld_batch M0 f0 0 (by decide), ld_batch M1 f1 0 (by decide), ld_batch M0 f0 1 (by decide), ld_batch M1 f1 1 (by decide), ld_batch M0 f0 2 (by decide), ld_batch M1 f1 2 (by decide), ld_batch M0 f0 3 (by decide), ld_batch M1 f1 3 (by decide)]
  refine View.read_writes_apply_of_pieces M2.view f2 _ _ ?_ y ?_
  · intro p hp
    fin_cases hp
    · exact fun x => sq_agrees 3 inb_S4x512x512_S1x512x512_3_0_0 _ _ x
    · exact fun x => sq_agrees 2 inb_S4x512x512_S1x512x512_2_0_0 _ _ x
    · exact fun x => sq_agrees 1 inb_S4x512x512_S1x512x512_1_0_0 _ _ x
    · exact fun x => sq_agrees 0 inb_S4x512x512_S1x512x512_0_0_0 _ _ x
  · have hy : (y 0).val < 4 := (y 0).isLt
    rcases (by omega : (y 0).val = 0 ∨ (y 0).val = 1 ∨ (y 0).val = 2 ∨ (y 0).val = 3) with h | h | h | h
    · exact ⟨sqPiece 0 inb_S4x512x512_S1x512x512_0_0_0 (batchAt (M0.view.read (Elt F) f0) 0) (batchAt (M1.view.read (Elt F) f1) 0), by simp, mem_batch 0 inb_S4x512x512_S1x512x512_0_0_0 y h⟩
    · exact ⟨sqPiece 1 inb_S4x512x512_S1x512x512_1_0_0 (batchAt (M0.view.read (Elt F) f0) 1) (batchAt (M1.view.read (Elt F) f1) 1), by simp, mem_batch 1 inb_S4x512x512_S1x512x512_1_0_0 y h⟩
    · exact ⟨sqPiece 2 inb_S4x512x512_S1x512x512_2_0_0 (batchAt (M0.view.read (Elt F) f0) 2) (batchAt (M1.view.read (Elt F) f1) 2), by simp, mem_batch 2 inb_S4x512x512_S1x512x512_2_0_0 y h⟩
    · exact ⟨sqPiece 3 inb_S4x512x512_S1x512x512_3_0_0 (batchAt (M0.view.read (Elt F) f0) 3) (batchAt (M1.view.read (Elt F) f1) 3), by simp, mem_batch 3 inb_S4x512x512_S1x512x512_3_0_0 y h⟩

/-- The run, what it leaves spelled out. -/
theorem sqRun_clean (h0 : M0.IsWhole) (h1 : M1.IsWhole) (h2 : M2.IsWhole) (Q : PUnit → sProp 𝕄) :
    iprop(pt c M0 f0 ∗ pt c M1 f1 ∗ pt c M2 f2
        ∗ (iprop(pt c M0 f0 ∗ pt c M1 f1 ∗ pt c M2 (M2.view.writes (Elt F) f2 (sqPieces c M0 M1 f0 f1))) -∗ Q ⟨⟩))
      ⊢ wp frame (wpE (defs₀ (F := F)) Variants.none c none) Set.univ
          (cc0_sqdist i M0 h0 M1 h1 M2 h2) Q :=
  (sqRun c i M0 h0 M1 h1 M2 h2 f0 f1).2 f2 Q

/-- The body at a grid point: from its two blocks it leaves the output block at `sqOut`. -/
theorem sqBody (h0 : M0.IsWhole) (h1 : M1.IsWhole) (h2 : M2.IsWhole) (x0 x1 : Vec F S4x512x8 .f32) (Q : PUnit → sProp 𝕄) :
    iprop(owns (c : Thread nD τ) M0 fullShare x0 ∗ owns (c : Thread nD τ) M1 fullShare x1 ∗ (∃ d, owns (c : Thread nD τ) M2 fullShare d)
      ∗ (iprop(owns (c : Thread nD τ) M0 fullShare x0 ∗ owns (c : Thread nD τ) M1 fullShare x1
          ∗ owns (c : Thread nD τ) M2 fullShare (sqOut x0 x1)) -∗ Q ⟨⟩))
    ⊢ wp frame (wpE (defs₀ (F := F)) Variants.none c none) Set.univ
        (cc0_sqdist i M0 h0 M1 h1 M2 h2) Q := by
  unfold owns
  iintro ⟨⟨%f0, %e0, H0⟩, ⟨%f1, %e1, H1⟩, ⟨%d2, %f2, -, H2⟩, Hk⟩
  subst e0 e1
  iapply (sqRun_clean c i M0 M1 M2 f0 f1 f2 h0 h1 h2 Q)
  isplitl [H0]; · iexact H0
  isplitl [H1]; · iexact H1
  isplitl [H2]; · iexact H2
  iintro ⟨H0, H1, H2⟩
  iapply Hk
  isplitl [H0]
  · iexists _; isplitr; swap; · iexact H0
    ipureintro; rfl
  isplitl [H1]
  · iexists _; isplitr; swap; · iexact H1
    ipureintro; rfl
  iexists _; isplitr; swap; · iexact H2
  ipureintro; exact read_sq c M0 M1 M2 f0 f1 f2

end Cert.KernelIdeal.Hand

end
-- ==== Proof.RegData.lean ====
/-
  The two kernel regions' proof data, over any contents `V` of the unscoped buffers at entry: what each grid point's body reads
  (its blocks, fetched at that point), what it leaves in its output block, and, for the dynamic program, the row the scratch
  carries from one point to the next.
-/
module

public import proofs.«01_k».proof.Proof.DpBody
public import proofs.«01_k».proof.Proof.SqBody
public import proofs.«01_k».proof.Proof.Gen.KernelIdeal.Points
public import proofs.«01_k».proof.Proof.Gen.KernelIdeal.Regions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR nD τ) ℕ

/-- Contents of the unscoped buffers, per core. -/
abbrev Cont : Type := (c : Dev nD) → (b : Ref sig .tc) → Buf (Elt F) ((c : Thread nD τ).loc b)

variable (V : Cont (F := F)) (c : Dev nD)

/-! ## The squared distances -/

/-- The two blocks point `t` reads. -/
def sqIn0 (t : Fin cfg0.N) : Vec F S4x512x8 .f32 := ((cfg0.win 0).blk t).view.read (Elt F) (V c (Pipeline.arrRef spec0 0))
def sqIn1 (t : Fin cfg0.N) : Vec F S4x512x8 .f32 := ((cfg0.win 1).blk t).view.read (Elt F) (V c (Pipeline.arrRef spec0 1))

/-- The proof data: the blocks stay, the output block is what the body leaves, the invariant is the core's other scoped buffers. -/
def dat0 : Dat τ (Elt F) Unit ℕ (UR nD τ) ℕ cfg0 c where
  A w := V c (Pipeline.arrRef spec0 w)
  after w t := match w with
    | 0 => sqIn0 V c t
    | 1 => sqIn1 V c t
    | 2 => sqOut (sqIn0 V c t) (sqIn1 V c t)
  Φ _ := Pipeline.scopedRest spec0 c
  q _ := fullShare
  owed _ := 0

theorem dat0_A (w : Fin cfg0.W) : (dat0 V c).A w = V c (Pipeline.arrRef spec0 w) := by dsimp only [dat0]

theorem before0_0 (t : Fin cfg0.N) (d) : (dat0 V c).before 0 t d = sqIn0 V c t := by
  unfold Dat.before; rw [if_pos (fetch0_0 t)]; rfl
theorem before0_1 (t : Fin cfg0.N) (d) : (dat0 V c).before 1 t d = sqIn1 V c t := by
  unfold Dat.before; rw [if_pos (fetch0_1 t)]; rfl

def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (t : Fin cfg0.N) : sProp 𝕄 :=
  iprop((dat0 V c).Φ t.succ ∗ (dat0 V c).owesAt () t.succ
    ∗ owns (c : Thread nD τ) (st0_0 t) fullShare (sqIn0 V c t)
    ∗ owns (c : Thread nD τ) (st0_1 t) fullShare (sqIn1 V c t)
    ∗ owns (c : Thread nD τ) (st0_2 t) fullShare (sqOut (sqIn0 V c t) (sqIn1 V c t)))

theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  iintro ⟨HΦ, HO, ⟨%d0, H0⟩, ⟨%d1, H1⟩, ⟨%d2, H2⟩⟩
  rw [before0_0, before0_1]
  iapply (sqBody c (grid0.coords t) (st0_0 t) (st0_1 t) (st0_2 t) _ _ _ (sqIn0 V c t) (sqIn1 V c t))
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

theorem defs₀_row0 (t : Fin cfg0.N) : defs₀ (F := F) .tc cfg0.body (cfg0.bodyArgs t (cfg0.slots t)) = bodyAt0 t := by
  unfold defs₀; rw [Defs.onTc_tc]

theorem obligation0 : BodyObligation (dat0 V c) (defs₀ (F := F)) Variants.none () Set.univ := fun t => by
  rw [bigSep_W0, bigSep_W0, defs₀_row0]
  exact triple_restated (sound_body0 V c t) rfl .rfl fun _ => .rfl

/-! ## The dynamic program -/

/-- The two blocks point `t` reads: neighbouring column blocks of the padded distances. -/
def dpIn0 (t : Fin cfg1.N) : Vec F S16x64x128 .bf16 := ((cfg1.win 0).blk t).view.read (Elt F) (V c (Pipeline.arrRef spec1 0))
def dpIn1 (t : Fin cfg1.N) : Vec F S16x64x128 .bf16 := ((cfg1.win 1).blk t).view.read (Elt F) (V c (Pipeline.arrRef spec1 1))

/-- The row the scratch holds before point `n` (before point 0: anything). -/
def scr : ℕ → FVec F S64x256 .f32
  | 0 => broadcast S64x256 infF
  | n + 1 => if h : n < cfg1.N then chunkRow n (dpIn0 V c ⟨n, h⟩) (dpIn1 V c ⟨n, h⟩) (startRow n (scr n)) 15 else scr n

/-- What point `t` leaves in its output block. -/
def dpOut (t : Fin cfg1.N) : Vec F S16x64x514 .f32 := chunkOut t.val (dpIn0 V c t) (dpIn1 V c t) (startRow t.val (scr V c t.val))

/-- The other region's staging buffers, each at something. -/
def rest6 : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `n`: the scratch at the carried row (at something before point 0). -/
def Φ1 (n : ℕ) : sProp 𝕄 :=
  iprop(rest6 c ∗ ∃ d, ⌜n = 0 ∨ d = scr V c n⌝ ∗ owns (c : Thread nD τ) (Memref.whole cc1_scratch0) fullShare d)

def dat1 : Dat τ (Elt F) Unit ℕ (UR nD τ) ℕ cfg1 c where
  A w := V c (Pipeline.arrRef spec1 w)
  after w t := match w with
    | 0 => dpIn0 V c t
    | 1 => dpIn1 V c t
    | 2 => dpOut V c t
  Φ t := Φ1 V c t.val
  q w := Pipeline.shareOf spec1 w
  owed _ := 0

theorem dat1_A (w : Fin cfg1.W) : (dat1 V c).A w = V c (Pipeline.arrRef spec1 w) := by dsimp only [dat1]

theorem before1_0 (t : Fin cfg1.N) (d) : (dat1 V c).before 0 t d = dpIn0 V c t := by
  unfold Dat.before; rw [if_pos (fetch1_0 t)]; rfl
theorem before1_1 (t : Fin cfg1.N) (d) : (dat1 V c).before 1 t d = dpIn1 V c t := by
  unfold Dat.before; rw [if_pos (fetch1_1 t)]; rfl

theorem coord1 (t : Fin cfg1.N) : (grid1.coords t 0).val = t.val := by
  have h : t.val < 34 := lt_of_lt_of_eq t.isLt N_1
  rw [Pipeline.Grid.coords_val (G := grid1) t 0 (S := 1) (B := 34) (by decide) rfl]
  omega

def bodyPre1 (t : Fin cfg1.N) : sProp 𝕄 :=
  iprop(Φ1 V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (t : Fin cfg1.N) : sProp 𝕄 :=
  iprop(Φ1 V c (t.val + 1) ∗ (dat1 V c).owesAt () t.succ
    ∗ owns (c : Thread nD τ) (st1_0 t) fullShare (dpIn0 V c t)
    ∗ owns (c : Thread nD τ) (st1_1 t) fullShare (dpIn1 V c t)
    ∗ owns (c : Thread nD τ) (st1_2 t) fullShare (dpOut V c t))

/-- The row a point starts from: the carried one. -/
theorem startRow_scr (n : ℕ) (d : FVec F S64x256 .f32) (h : n = 0 ∨ d = scr V c n) : startRow n d = startRow n (scr V c n) := by
  rcases h with h | h
  · unfold startRow; rw [if_pos h, if_pos h]
  · rw [h]

theorem scr_succ (t : Fin cfg1.N) :
    scr V c (t.val + 1) = chunkRow t.val (dpIn0 V c t) (dpIn1 V c t) (startRow t.val (scr V c t.val)) 15 := by
  rw [scr, dif_pos t.isLt]

theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl]
  unfold Φ1
  iintro ⟨⟨H6, ⟨%d, %hd, HS⟩⟩, HO, ⟨%d0, H0⟩, ⟨%d1, H1⟩, ⟨%d2, H2⟩⟩
  rw [before1_0, before1_1]
  iapply (dpBody c (grid1.coords t) (st1_0 t) (st1_1 t) (st1_2 t) (Memref.whole cc1_scratch0) _ _ _ _ (dpIn0 V c t) (dpIn1 V c t) d)
  isplitl [H0]; · iexact H0
  isplitl [H1]; · iexact H1
  isplitl [H2]; · iexists _; iexact H2
  isplitl [HS]; · iexact HS
  rw [coord1, startRow_scr V c t.val d hd]
  iintro ⟨H0, H1, H2, HS⟩
  isplitl [H6 HS]
  · isplitl [H6]; · iexact H6
    iexists _; isplitr; swap; · iexact HS
    ipureintro; exact Or.inr (scr_succ V c t).symm
  isplitl [HO]; · iexact HO
  isplitl [H0]; · iexact H0
  isplitl [H1]; · iexact H1
  iexact H2

theorem defs₀_row1 (t : Fin cfg1.N) : defs₀ (F := F) .tc cfg1.body (cfg1.bodyArgs t (cfg1.slots t)) = bodyAt1 t := by
  unfold defs₀; rw [Defs.onTc_tc]

theorem obligation1 : BodyObligation (dat1 V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.RegSegs.lean ====
/-
  The program's run: the two regions as segments between the host operations, the launch, and what the final memory holds: both
  arguments as launched, both results at the last valuation's contents.
-/
module

public import proofs.«01_k».proof.Proof.RegData
public import Idealize.ShloMosaic.Lib.Pipeline.RegionsLoop

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR nD τ) ℕ

variable (m : (ℓ : Loc nD τ sig) → Buf (Elt F) ℓ)

/-- What the first region leaves in its output array, -/
def res0 (c : Dev nD) : Buf (Elt F) ((c : Thread nD τ).loc main_v0) := (dat0 (fun c b => V0 m c b) c).arrAt 2 cfg0.N

/-- as the contents the first region leaves; -/
def outs0 : Outs (F := F) := fun _ r c => Function.update (V0 m c) (Proc.devRef .tc main_v0) (res0 m c) (Proc.devRef .tc r)

/-- the unscoped buffers when the second region is entered; -/
def VE : Cont (F := F) := fun c b => V3 m (outs0 m) c b

/-- what the second region leaves in its output array, -/
def res1 (c : Dev nD) : Buf (Elt F) ((c : Thread nD τ).loc main_v3) := (dat1 (VE m) c).arrAt 2 cfg1.N

/-- and the contents the two regions leave. -/
def outs : Outs (F := F) := fun J r c =>
  if J = 4 then Function.update (V0 m c) (Proc.devRef .tc main_v3) (res1 m c) (Proc.devRef .tc r) else outs0 m J r c

theorem outs_1 (c : Dev nD) : outs m 1 main_v0 c = res0 m c := by
  unfold outs; rw [if_neg (by decide)]; unfold outs0; exact Function.update_self ..
theorem outs0_1 (c : Dev nD) : outs0 m 1 main_v0 c = res0 m c := by
  unfold outs0; exact Function.update_self ..
theorem outs_4 (c : Dev nD) : outs m 4 main_v3 c = res1 m c := by
  unfold outs; rw [if_pos rfl]; exact Function.update_self ..

theorem V1_eq (c : Dev nD) : V1 m (outs m) c = V1 m (outs0 m) c := by
  unfold V1; rw [outs_1, outs0_1]
theorem V3_eq (c : Dev nD) : V3 m (outs m) c = V3 m (outs0 m) c := by
  unfold V3 V2; rw [V1_eq]

abbrev L : GSem nD τ sig → Finset Unit := fun _ => ∅
abbrev lv : GSem nD τ sig → Unit → ℕ := fun _ _ => 0

/-- The two regions' proof data. -/
def dats : (p : Fin 2) → (c : Dev nD) → Dat τ (Elt F) Unit ℕ (UR nD τ) ℕ (cfgs p) c
  | 0 => fun c => dat0 (fun c b => V0 m c b) c
  | 1 => fun c => dat1 (VE m) c

/-- What rides beside the buffers: the core's dues, none. -/
abbrev E : Fin 3 → Dev nD → sProp 𝕄 := fun _ c => iprop(∃ W, owes (c : Thread nD τ) (0 : CellTallies nD τ sig Unit) W)

theorem ownSems0_none (c : Dev nD) :
    (Pipeline.ownSems0 (Ix := Unit) (Name := ℕ) (U := UR nD τ) (Lvl := ℕ) (Val := Elt F) (τ := τ) (fun k : PEmpty => k.elim) c : sProp 𝕄) = BI.emp := by
  unfold Pipeline.ownSems0
  rw [show (Finset.univ : Finset PEmpty) = ∅ from rfl, BI.bigSep_empty]

set_option backward.isDefEq.respectTransparency.types false in
/-- The first region, entered from the launch contents and left with `main_v0` at `res0`. -/
def R0 : RegionSeg (pcfgs (F := F)) adm (dats m) () defs₀ Variants.none L lv 0 where
  win := launch0.win.to₀
  block_pos := launch0.block_pos
  stage_whole := launch0.stage_whole
  K := PEmpty
  osem k := k.elim
  ho := Pipeline.OwnSemFacts.none _
  hbody c := (obligation0 (fun c b => V0 m c b) c).loose
  hwaits := Pipeline.hwaits_of_owed_zero _ _ _ _ L lv 0 fun _ _ => rfl
  pre c := iprop(StableHlo.held (c : Thread nD τ) (Pipeline.ucRefs τ sig) (V0 m c) ∗ E 0 c)
  post c := iprop(StableHlo.held (c : Thread nD τ) (Pipeline.ucRefs τ sig) (V1 m (outs m) c) ∗ E 1 c)
  X c := BI.emp
  Y c := BI.emp
  Z c := Pipeline.unscopedRest spec0 c (fun b => V0 m c b)
  hentry c := by
    rw [← Pipeline.unscopedBufs_held (Ix := Unit) (Name := ℕ) (U := UR nD τ) (Lvl := ℕ) c (V0 m c)]
    have hsplit := Pipeline.arrays_of_unscopedBufs (p := (0 : Fin 2)) (pcfgs (F := F)) adm (dats m) launch0.win launch0.arr_whole c
      ((dats m 0 c).share_full fun _ => rfl) (fun b => V0 m c b) (dat0_A (fun c b => V0 m c b) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest spec0 c from rfl]
    iintro ⟨-, -, Hr⟩
    iexact Hr
  hout c := by
    rw [ownSems0_none, show (dats m 0 c).Φ (Fin.last _) = Pipeline.scopedRest spec0 c from rfl]
    iintro Hr
    isplitr; · iempintro
    isplitr; · iempintro
    iexact Hr
  hexit c := by
    have hjoin := Pipeline.unscopedBufs_of_arrays (p := (0 : Fin 2)) (pcfgs (F := F)) adm launch0.win launch0.arr_whole c (dats m)
      ((dats m 0 c).share_full fun _ => rfl) (fun b => V0 m c b) (fun b => V1 m (outs m) c b)
      ((dats m 0 c).arrAt · cfg0.N)
      (fun w => match w with
        | 0 => ((dats m 0 c).arrAt_in 0 rfl _).trans (V1_of m (outs m) c main_arg0 (by decide)).symm
        | 1 => ((dats m 0 c).arrAt_in 1 rfl _).trans (V1_of m (outs m) c main_arg1 (by decide)).symm
        | 2 => by
            show res0 m c = Function.update (V0 m c) (Proc.devRef .tc main_v0) (outs m 1 main_v0 c) (Proc.devRef .tc main_v0)
            rw [Function.update_self, outs_1])
      (fun b hb => V1_of m (outs m) c b (by
        rw [List.mem_singleton]; rintro rfl; exact hb (Finset.mem_image.mpr ⟨2, Finset.mem_univ _, rfl⟩)))
    rw [← Pipeline.unscopedBufs_held (Ix := Unit) (Name := ℕ) (U := UR nD τ) (Lvl := ℕ) c (V1 m (outs m) c)]
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

set_option backward.isDefEq.respectTransparency.types false in
/-- The second region, entered from the host operations' contents and left with `main_v3` at `res1`. -/
def R1 : RegionSeg (pcfgs (F := F)) adm (dats m) () defs₀ Variants.none L lv 1 where
  win := winFacts₀1
  block_pos := block_pos1
  stage_whole := stage_whole1
  K := PEmpty
  osem k := k.elim
  ho := Pipeline.OwnSemFacts.none _
  hbody c := (obligation1 (VE m) c).loose
  hwaits := Pipeline.hwaits_of_owed_zero _ _ _ _ L lv 1 fun _ _ => rfl
  pre c := iprop(StableHlo.held (c : Thread nD τ) (Pipeline.ucRefs τ sig) (V3 m (outs m) c) ∗ E 1 c)
  post c := iprop(StableHlo.held (c : Thread nD τ) (Pipeline.ucRefs τ sig) (V4 m (outs m) c) ∗ E 2 c)
  X c := BI.emp
  Y c := BI.emp
  Z c := Pipeline.unscopedRest spec1 c (VE m c)
  hentry c := by
    rw [V3_eq, ← Pipeline.unscopedBufs_held (Ix := Unit) (Name := ℕ) (U := UR nD τ) (Lvl := ℕ) c (V3 m (outs0 m) c),
      show (fun b : Ref sig .tc => V3 m (outs0 m) c (Proc.devRef .tc b)) = VE m c from rfl]
    have hsplit := Pipeline.arrays_of_unscopedBufs_shared (p := (1 : Fin 2)) (pcfgs (F := F)) adm (dats m) winFacts₀1 sharedIn1 arr_whole1 c
      (fun _ _ => rfl) (VE m c) (dat1_A (VE m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 1 c).Φ 0 = Φ1 (VE m) c 0 from rfl]
    iintro ⟨-, -, Hr⟩
    ihave H := (Entails.of_eq (scopedRest1_eq (Ix := Unit) (Val := Elt F) (Name := ℕ) (U := UR nD τ) (Lvl := ℕ) c)) $$ Hr
    icases H with ⟨H1, H2, H3, H4, H5, H6, ⟨%f, HS⟩⟩
    unfold Φ1 rest6
    isplitl [H1 H2 H3 H4 H5 H6]
    · isplitl [H1]; · iexact H1
      isplitl [H2]; · iexact H2
      isplitl [H3]; · iexact H3
      isplitl [H4]; · iexact H4
      isplitl [H5]; · iexact H5
      iexact H6
    iexists f
    isplitr; · ipureintro; exact Or.inl rfl
    rw [owns_whole]
    iexact HS
  hout c := by
    rw [ownSems0_none, show (dats m 1 c).Φ (Fin.last _) = Φ1 (VE m) c cfg1.N from rfl]
    unfold Φ1 rest6
    iintro ⟨⟨H1, H2, H3, H4, H5, H6⟩, ⟨%d, -, HS⟩⟩
    isplitr; · iempintro
    isplitr; · iempintro
    iapply (Entails.of_eq (scopedRest1_eq (Ix := Unit) (Val := Elt F) (Name := ℕ) (U := UR nD τ) (Lvl := ℕ) c).symm)
    isplitl [H1]; · iexact H1
    isplitl [H2]; · iexact H2
    isplitl [H3]; · iexact H3
    isplitl [H4]; · iexact H4
    isplitl [H5]; · iexact H5
    isplitl [H6]; · iexact H6
    iexists d
    ihave HS := (Entails.of_eq (owns_whole (c : Thread nD τ) cc1_scratch0 fullShare d)) $$ HS
    iexact HS
  hexit c := by
    have hjoin := Pipeline.unscopedBufs_of_arrays_shared (p := (1 : Fin 2)) (pcfgs (F := F)) adm winFacts₀1 sharedIn1 arr_whole1 c (dats m)
      (fun _ _ => rfl) (VE m c) (fun b => V4 m (outs m) c b)
      ((dats m 1 c).arrAt · cfg1.N)
      (fun w => match w with
        | 0 => ((dats m 1 c).arrAt_in 0 rfl _).trans
            (((V4_of m (outs m) c main_v2 (by decide)).trans (congrFun (V3_eq m c) (Proc.devRef .tc main_v2))).symm)
        | 1 => ((dats m 1 c).arrAt_in 1 rfl _).trans
            (((V4_of m (outs m) c main_v2 (by decide)).trans (congrFun (V3_eq m c) (Proc.devRef .tc main_v2))).symm)
        | 2 => by
            show res1 m c = Function.update (V3 m (outs m) c) (Proc.devRef .tc main_v3) (outs m 4 main_v3 c) (Proc.devRef .tc main_v3)
            rw [Function.update_self, outs_4])
      (fun b hb => (V4_of m (outs m) c b (by
        rw [List.mem_singleton]; rintro rfl; exact hb (Finset.mem_image.mpr ⟨2, Finset.mem_univ _, rfl⟩))).trans
          (congrFun (V3_eq m c) (Proc.devRef .tc b)))
    rw [← Pipeline.unscopedBufs_held (Ix := Unit) (Name := ℕ) (U := UR nD τ) (Lvl := ℕ) c (V4 m (outs m) c)]
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

end Cert.KernelIdeal.Hand

end
-- ==== Proof.KernelRun.lean ====
/-
  The program's run: every execution ends with both arguments as launched, both results at the last contents `V5` names, and
  every counter at zero.
-/
module

public import proofs.«01_k».proof.Proof.RegSegs
public import Idealize.ShloMosaic.Lib.StableHlo.RunHlo

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg)

variable {F : FTy → Type} [FloatOps F]

local notation "𝕄" => MT nD τ sig Unit (Elt F) ℕ (UR nD τ) ℕ

/-- The pipeline library's algebra, embedded as the whole of the user's. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

variable (m : (ℓ : Loc nD τ sig) → Buf (Elt F) ℓ) (ρ : Dev nD → PrngReg)

/-- The launch element: the library's, at the staging cells. -/
def u₀ : UR nD τ := initOf (Pipeline.cells cfgs cellOf_inj) (Pipeline.launchToks cfgs cellOf_inj)

/-- What a final memory holds on core `c`. -/
def QY (c : Dev nD) (s : MemSt nD τ sig (Elt F)) : Prop :=
  s.mem ((c.tc : Thread nD τ).loc main_v7) = V5 m (outs m) c main_v7
  ∧ s.mem ((c.tc : Thread nD τ).loc main_v5) = V5 m (outs m) c main_v5
  ∧ s.mem ((c.tc : Thread nD τ).loc main_arg0) = m ((c.tc : Thread nD τ).loc main_arg0)
  ∧ s.mem ((c.tc : Thread nD τ).loc main_arg1) = m ((c.tc : Thread nD τ).loc main_arg1)

theorem mem_uc (b : Ref sig .tc) (h : ¬ (Proc.devRef (τ := τ) .tc b).isScoped = true) : Proc.devRef .tc b ∈ Pipeline.ucRefs τ sig :=
  Finset.mem_filter.mpr ⟨StableHlo.devRef_mem_tcRefs b, h⟩

/-- The end, read: the buffers held at the last contents beside a final state. -/
theorem read_end (c : Dev nD) (s' : Phys nD τ sig (Elt F)) :
    iprop(StableHlo.held (c : Thread nD τ) (Pipeline.ucRefs τ sig) (V5 m (outs m) c) ∗ SI s')
      ⊢ (|={Set.univ}=> iprop(⌜QY m c s'.mem⌝ ∗ SI s') : sProp 𝕄) := by
  unfold StableHlo.held
  iintro ⟨Hh, HSI⟩
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    exact ⟨h _ (mem_uc main_v7 (by decide)), h _ (mem_uc main_v5 (by decide)),
      (h _ (mem_uc main_arg0 (by decide))).trans (V5_main_arg0 m (outs m) c),
      (h _ (mem_uc main_arg1 (by decide))).trans (V5_main_arg1 m (outs m) c)⟩
  · iexact HSI

set_option backward.isDefEq.respectTransparency.types false in
/-- THE RUN. -/
theorem run_main :
    θ_run defs (onTc (τ := τ) (main (F := F))) ⟨m, fun _ => 0, ρ⟩ (fun r => (∀ c : Dev nD, QY m c r.2) ∧ r.2.sem = fun _ => 0) := by
  refine Pipeline.θ_run_regions_kit_dev_sems (pcfgs (F := F)) adm (dats m) () cellOf_inj EP defs₀ Variants.none L lv m ρ main
    (segs m (outs m) Variants.none L lv E () (dats m) (R0 m) (R1 m))
    (fun c Q => by
      rewrite [main_chain c, Seg.run_eq_chain,
        show (segs m (outs m) Variants.none L lv E () (dats m) (R0 m) (R1 m) c).map Seg.prog = [
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Seg.pipes_host, Seg.pipes_region, Seg.pipes_nil]; decide) (fun _ => 0) (fun _ _ => rfl)
    (fun _ => iprop(emp)) u₀ ?_
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl, .rfl⟩)
    (hinit := ?_) (QY := QY m)
    (hfin := fun c s' => read_end m c s') (hQ := fun _ h hz => ⟨h, funext fun g => hz g (.inr (regions_no_unscoped g.2))⟩)
  · rw [show (ownU u₀ : sProp 𝕄) = BI.own ((EP (F := F)).toFun (initOf (Pipeline.cells (Pipeline.pin (pcfgs (F := F)) adm) cellOf_inj)
        (Pipeline.launchToks (Pipeline.pin (pcfgs (F := F)) adm) cellOf_inj))) from rfl]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO

/-- The frame claim's body. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) fun _ h => ⟨fun c => (h.1 c).2.2, h.2⟩

end Cert.KernelIdeal.Hand

end
-- ==== Proof.RefRun.lean ====
/-
  THE REFERENCE, run. The reference is a straight line of host operations that fills the squared distances and the
  border of the table, one counted loop over the 512·512 cells, and two operations that read the corner cell. This
  module lists the operations of the four stretches and applies the library's theorem for such a program: every
  buffer ends at the fold of the operations, the loop's body 262144 times over.
-/
module

public import proofs.«01_k».proof.Proof.Gen.ReferenceIdeal
public import Idealize.ShloMosaic.Lib.StableHlo.RunLoop
public import Idealize.ShloMosaic.Lib.StableHlo.RunHlo
public import Idealize.ShloMosaic.Lib.Scf
public import Idealize.ShloMosaic.Lib.StableHlo.RunRead
public import Idealize.ShloMosaic.Lib.WordCmp

@[expose] public section

noncomputable section

namespace Cert.ReferenceIdeal.Hand

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held launchContents)

variable {F : FTy → Type} [FloatOps F]

/-- The loop's test: the counter against 262144. -/
abbrev condOps : List (HloOp τ sig (Elt F)) :=
  [ StableHlo.nullary main_while0c_c_11 (constantI S_ 32 262144#32),
    StableHlo.binary main_v16_1 main_while0c_c_11 main_while0c_v19 (cmpi .slt : (⟨S_, .i32⟩ : BufTy).Contents (Elt F) → (⟨S_, .i32⟩ : BufTy).Contents (Elt F) → (⟨S_, .i1⟩ : BufTy).Contents (Elt F)) ]

/-- The loop's body: one cell of the table, and the two counters stepped. -/
abbrev bodyOps : List (HloOp τ sig (Elt F)) :=
  [ StableHlo.nullary main_while0b_c_11 (constantI S_ 32 1#32),
    StableHlo.binary main_v16_2 main_while0b_c_11 main_while0b_v19 (addi : (⟨S_, .i32⟩ : BufTy).Contents (Elt F) → (⟨S_, .i32⟩ : BufTy).Contents (Elt F) → (⟨S_, .i32⟩ : BufTy).Contents (Elt F)),
    StableHlo.nullary main_while0b_c_12 (constantI S_ 32 512#32),
    StableHlo.binary main_v16_2 main_while0b_c_12 main_while0b_v20 (Host.divsi : (⟨S_, .i32⟩ : BufTy).Contents (Elt F) → (⟨S_, .i32⟩ : BufTy).Contents (Elt F) → (⟨S_, .i32⟩ : BufTy).Contents (Elt F)),
    StableHlo.nullary main_while0b_c_13 (constantI S_ 32 512#32),
    StableHlo.binary main_v16_2 main_while0b_c_13 main_while0b_v21 (Host.remsi : (⟨S_, .i32⟩ : BufTy).Contents (Elt F) → (⟨S_, .i32⟩ : BufTy).Contents (Elt F) → (⟨S_, .i32⟩ : BufTy).Contents (Elt F)),
    StableHlo.nullary main_while0b_c_14 (constantI S_ 32 0#32),
    StableHlo.unaryIndexed main_v16_3 ![main_while0b_c_14, main_while0b_v20, main_while0b_v21] ⟨S_, .i32⟩ main_while0b_v22 ((fun x i => Host.dynamicSlice S64x1x1 x (fun k => (i k (Shape.Idx.first h_S_)).toInt) sliceFits_S64x514x514_S64x1x1) : (⟨S64x514x514, .f32⟩ : BufTy).Contents (Elt F) → (Fin 3 → (⟨S_, .i32⟩ : BufTy).Contents (Elt F)) → (⟨S64x1x1, .f32⟩ : BufTy).Contents (Elt F)),
    StableHlo.nullary main_while0b_c_15 (constantI S_ 32 1#32),
    StableHlo.binary main_while0b_v21 main_while0b_c_15 main_while0b_v23 (addi : (⟨S_, .i32⟩ : BufTy).Contents (Elt F) → (⟨S_, .i32⟩ : BufTy).Contents (Elt F) → (⟨S_, .i32⟩ : BufTy).Contents (Elt F)),
    StableHlo.nullary main_while0b_c_16 (constantI S_ 32 0#32),
    StableHlo.unaryIndexed main_v16_3 ![main_while0b_c_16, main_while0b_v20, main_while0b_v23] ⟨S_, .i32⟩ main_while0b_v24 ((fun x i => Host.dynamicSlice S64x1x1 x (fun k => (i k (Shape.Idx.first h_S_)).toInt) sliceFits_S64x514x514_S64x1x1) : (⟨S64x514x514, .f32⟩ : BufTy).Contents (Elt F) → (Fin 3 → (⟨S_, .i32⟩ : BufTy).Contents (Elt F)) → (⟨S64x1x1, .f32⟩ : BufTy).Contents (Elt F)),
    StableHlo.binary main_while0b_v22 main_while0b_v24 main_while0b_v25 (minimumf : (⟨S64x1x1, .f32⟩ : BufTy).Contents (Elt F) → (⟨S64x1x1, .f32⟩ : BufTy).Contents (Elt F) → (⟨S64x1x1, .f32⟩ : BufTy).Contents (Elt F)),
    StableHlo.nullary main_while0b_c_17 (constantI S_ 32 1#32),
    StableHlo.binary main_while0b_v20 main_while0b_c_17 main_while0b_v26 (addi : (⟨S_, .i32⟩ : BufTy).Contents (Elt F) → (⟨S_, .i32⟩ : BufTy).Contents (Elt F) → (⟨S_, .i32⟩ : BufTy).Contents (Elt F)),
    StableHlo.nullary main_while0b_c_18 (constantI S_ 32 0#32),
    StableHlo.unaryIndexed main_v16_3 ![main_while0b_c_18, main_while0b_v26, main_while0b_v21] ⟨S_, .i32⟩ main_while0b_v27 ((fun x i => Host.dynamicSlice S64x1x1 x (fun k => (i k (Shape.Idx.first h_S_)).toInt) sliceFits_S64x514x514_S64x1x1) : (⟨S64x514x514, .f32⟩ : BufTy).Contents (Elt F) → (Fin 3 → (⟨S_, .i32⟩ : BufTy).Contents (Elt F)) → (⟨S64x1x1, .f32⟩ : BufTy).Contents (Elt F)),
    StableHlo.binary main_while0b_v25 main_while0b_v27 main_while0b_v28 (minimumf : (⟨S64x1x1, .f32⟩ : BufTy).Contents (Elt F) → (⟨S64x1x1, .f32⟩ : BufTy).Contents (Elt F) → (⟨S64x1x1, .f32⟩ : BufTy).Contents (Elt F)),
    StableHlo.unary main_while0b_v20 main_while0b_v29 (sitofp .f32 : (⟨S_, .i32⟩ : BufTy).Contents (Elt F) → (⟨S_, .f32⟩ : BufTy).Contents (Elt F)),
    StableHlo.nullary main_while0b_cst_19 (constant S_ .f32 0x3B004020#32),
    StableHlo.binary main_while0b_v29 main_while0b_cst_19 main_while0b_v30 (mulf : (⟨S_, .f32⟩ : BufTy).Contents (Elt F) → (⟨S_, .f32⟩ : BufTy).Contents (Elt F) → (⟨S_, .f32⟩ : BufTy).Contents (Elt F)),
    StableHlo.unary main_while0b_v21 main_while0b_v31 (sitofp .f32 : (⟨S_, .i32⟩ : BufTy).Contents (Elt F) → (⟨S_, .f32⟩ : BufTy).Contents (Elt F)),
    StableHlo.nullary main_while0b_cst_20 (constant S_ .f32 0x3B004020#32),
    StableHlo.binary main_while0b_v31 main_while0b_cst_20 main_while0b_v32 (mulf : (⟨S_, .f32⟩ : BufTy).Contents (Elt F) → (⟨S_, .f32⟩ : BufTy).Contents (Elt F) → (⟨S_, .f32⟩ : BufTy).Contents (Elt F)),
    StableHlo.binary main_while0b_v30 main_while0b_v32 main_while0b_v33 (subf : (⟨S_, .f32⟩ : BufTy).Contents (Elt F) → (⟨S_, .f32⟩ : BufTy).Contents (Elt F) → (⟨S_, .f32⟩ : BufTy).Contents (Elt F)),
    StableHlo.unary main_while0b_v33 main_while0b_v34 (Host.absf : (⟨S_, .f32⟩ : BufTy).Contents (Elt F) → (⟨S_, .f32⟩ : BufTy).Contents (Elt F)),
    StableHlo.nullary main_while0b_cst_21 (constant S_ .f32 0x3DCCCCCD#32),
    StableHlo.binary main_while0b_v34 main_while0b_cst_21 main_while0b_v35 (cmpf .ole : (⟨S_, .f32⟩ : BufTy).Contents (Elt F) → (⟨S_, .f32⟩ : BufTy).Contents (Elt F) → (⟨S_, .i1⟩ : BufTy).Contents (Elt F)),
    StableHlo.nullary main_while0b_c_22 (constantI S_ 32 0#32),
    StableHlo.unaryIndexed main_v16_0 ![main_while0b_c_22, main_while0b_v20, main_while0b_v21] ⟨S_, .i32⟩ main_while0b_v36 ((fun x i => Host.dynamicSlice S64x1x1 x (fun k => (i k (Shape.Idx.first h_S_)).toInt) sliceFits_S64x512x512_S64x1x1) : (⟨S64x512x512, .f32⟩ : BufTy).Contents (Elt F) → (Fin 3 → (⟨S_, .i32⟩ : BufTy).Contents (Elt F)) → (⟨S64x1x1, .f32⟩ : BufTy).Contents (Elt F)),
    StableHlo.binary main_while0b_v36 main_while0b_v28 main_while0b_v37 (addf : (⟨S64x1x1, .f32⟩ : BufTy).Contents (Elt F) → (⟨S64x1x1, .f32⟩ : BufTy).Contents (Elt F) → (⟨S64x1x1, .f32⟩ : BufTy).Contents (Elt F)),
    StableHlo.nullary main_while0b_cst_23 (constant S_ .f32 0x7F800000#32),
    StableHlo.unary main_while0b_cst_23 main_while0b_v38 (broadcastInDim S64x1x1 ![] bcast_S_S64x1x1 : (⟨S_, .f32⟩ : BufTy).Contents (Elt F) → (⟨S64x1x1, .f32⟩ : BufTy).Contents (Elt F)),
    StableHlo.ternary main_while0b_v35 main_while0b_v37 main_while0b_v38 main_while0b_v39 ((fun p a b => select (broadcastInDim S64x1x1 ![] bcast_S_S64x1x1 p) a b) : (⟨S_, .i1⟩ : BufTy).Contents (Elt F) → (⟨S64x1x1, .f32⟩ : BufTy).Contents (Elt F) → (⟨S64x1x1, .f32⟩ : BufTy).Contents (Elt F) → (⟨S64x1x1, .f32⟩ : BufTy).Contents (Elt F)),
    StableHlo.nullary main_while0b_c_24 (constantI S_ 32 1#32),
    StableHlo.binary main_while0b_v20 main_while0b_c_24 main_while0b_v40 (addi : (⟨S_, .i32⟩ : BufTy).Contents (Elt F) → (⟨S_, .i32⟩ : BufTy).Contents (Elt F) → (⟨S_, .i32⟩ : BufTy).Contents (Elt F)),
    StableHlo.nullary main_while0b_c_25 (constantI S_ 32 1#32),
    StableHlo.binary main_while0b_v21 main_while0b_c_25 main_while0b_v41 (addi : (⟨S_, .i32⟩ : BufTy).Contents (Elt F) → (⟨S_, .i32⟩ : BufTy).Contents (Elt F) → (⟨S_, .i32⟩ : BufTy).Contents (Elt F)),
    StableHlo.nullary main_while0b_c_26 (constantI S_ 32 0#32),
    StableHlo.binaryIndexed main_v16_3 main_while0b_v39 ![main_while0b_c_26, main_while0b_v40, main_while0b_v41] ⟨S_, .i32⟩ main_while0b_v42 ((fun x u i => Host.dynamicUpdateSlice x u (fun k => (i k (Shape.Idx.first h_S_)).toInt) updateFits_S64x514x514_S64x1x1) : (⟨S64x514x514, .f32⟩ : BufTy).Contents (Elt F) → (⟨S64x1x1, .f32⟩ : BufTy).Contents (Elt F) → (Fin 3 → (⟨S_, .i32⟩ : BufTy).Contents (Elt F)) → (⟨S64x514x514, .f32⟩ : BufTy).Contents (Elt F)),
    StableHlo.nullary main_while0b_c_27 (constantI S_ 32 1#32),
    StableHlo.binary main_v16_1 main_while0b_c_27 main_while0b_v43 (addi : (⟨S_, .i32⟩ : BufTy).Contents (Elt F) → (⟨S_, .i32⟩ : BufTy).Contents (Elt F) → (⟨S_, .i32⟩ : BufTy).Contents (Elt F)),
    StableHlo.unary main_while0b_v43 main_v16_1 id,
    StableHlo.unary main_while0b_v19 main_v16_2 id,
    StableHlo.unary main_while0b_v42 main_v16_3 id ]

/-- Before the loop: the squared distances, the border of the table, the loop's first values. -/
abbrev preOps : List (HloOp τ sig (Elt F)) :=
  [ StableHlo.binary main_arg0 main_arg0 main_v0 (mulf : (⟨S64x512x8, .f32⟩ : BufTy).Contents (Elt F) → (⟨S64x512x8, .f32⟩ : BufTy).Contents (Elt F) → (⟨S64x512x8, .f32⟩ : BufTy).Contents (Elt F)),
    StableHlo.nullary main_cst (constant S_ .f32 0x00000000#32),
    StableHlo.binary main_v0 main_cst main_v1 ((fun x v => Host.reduceAdd x v reducesTo_S64x512x8_S64x512_d2 h_S_) : (⟨S64x512x8, .f32⟩ : BufTy).Contents (Elt F) → (⟨S_, .f32⟩ : BufTy).Contents (Elt F) → (⟨S64x512, .f32⟩ : BufTy).Contents (Elt F)),
    StableHlo.unary main_v1 main_v2 (broadcastInDim S64x512x1 ![0, 1] bcast_S64x512_S64x512x1_0_1 : (⟨S64x512, .f32⟩ : BufTy).Contents (Elt F) → (⟨S64x512x1, .f32⟩ : BufTy).Contents (Elt F)),
    StableHlo.binary main_arg1 main_arg1 main_v3 (mulf : (⟨S64x512x8, .f32⟩ : BufTy).Contents (Elt F) → (⟨S64x512x8, .f32⟩ : BufTy).Contents (Elt F) → (⟨S64x512x8, .f32⟩ : BufTy).Contents (Elt F)),
    StableHlo.nullary main_cst_0 (constant S_ .f32 0x00000000#32),
    StableHlo.binary main_v3 main_cst_0 main_v4 ((fun x v => Host.reduceAdd x v reducesTo_S64x512x8_S64x512_d2 h_S_) : (⟨S64x512x8, .f32⟩ : BufTy).Contents (Elt F) → (⟨S_, .f32⟩ : BufTy).Contents (Elt F) → (⟨S64x512, .f32⟩ : BufTy).Contents (Elt F)),
    StableHlo.unary main_v4 main_v5 (broadcastInDim S64x1x512 ![0, 2] bcast_S64x512_S64x1x512_0_2 : (⟨S64x512, .f32⟩ : BufTy).Contents (Elt F) → (⟨S64x1x512, .f32⟩ : BufTy).Contents (Elt F)),
    StableHlo.binary main_arg0 main_arg1 main_v6 ((fun l r => Host.dotGeneral dot_S64x512x8_S64x512x8_S64x512x512_2_2_1_1_0_0 none l r) : (⟨S64x512x8, .f32⟩ : BufTy).Contents (Elt F) → (⟨S64x512x8, .f32⟩ : BufTy).Contents (Elt F) → (⟨S64x512x512, .f32⟩ : BufTy).Contents (Elt F)),
    StableHlo.unary main_v2 main_v7 (broadcastInDim S64x512x512 ![0, 1, 2] bcast_S64x512x1_S64x512x512_0_1_2 : (⟨S64x512x1, .f32⟩ : BufTy).Contents (Elt F) → (⟨S64x512x512, .f32⟩ : BufTy).Contents (Elt F)),
    StableHlo.unary main_v5 main_v8 (broadcastInDim S64x512x512 ![0, 1, 2] bcast_S64x1x512_S64x512x512_0_1_2 : (⟨S64x1x512, .f32⟩ : BufTy).Contents (Elt F) → (⟨S64x512x512, .f32⟩ : BufTy).Contents (Elt F)),
    StableHlo.binary main_v7 main_v8 main_v9 (addf : (⟨S64x512x512, .f32⟩ : BufTy).Contents (Elt F) → (⟨S64x512x512, .f32⟩ : BufTy).Contents (Elt F) → (⟨S64x512x512, .f32⟩ : BufTy).Contents (Elt F)),
    StableHlo.nullary main_cst_1 (constant S_ .f32 0x40000000#32),
    StableHlo.unary main_cst_1 main_v10 (broadcastInDim S64x512x512 ![] bcast_S_S64x512x512 : (⟨S_, .f32⟩ : BufTy).Contents (Elt F) → (⟨S64x512x512, .f32⟩ : BufTy).Contents (Elt F)),
    StableHlo.binary main_v10 main_v6 main_v11 (mulf : (⟨S64x512x512, .f32⟩ : BufTy).Contents (Elt F) → (⟨S64x512x512, .f32⟩ : BufTy).Contents (Elt F) → (⟨S64x512x512, .f32⟩ : BufTy).Contents (Elt F)),
    StableHlo.binary main_v9 main_v11 main_v12 (subf : (⟨S64x512x512, .f32⟩ : BufTy).Contents (Elt F) → (⟨S64x512x512, .f32⟩ : BufTy).Contents (Elt F) → (⟨S64x512x512, .f32⟩ : BufTy).Contents (Elt F)),
    StableHlo.nullary main_cst_2 (constant S_ .f32 0x7F800000#32),
    StableHlo.unary main_cst_2 main_v13 (broadcastInDim S64x514x514 ![] bcast_S_S64x514x514 : (⟨S_, .f32⟩ : BufTy).Contents (Elt F) → (⟨S64x514x514, .f32⟩ : BufTy).Contents (Elt F)),
    StableHlo.nullary main_cst_3 (constant S_ .f32 0x00000000#32),
    StableHlo.unary main_cst_3 main_v14 (broadcastInDim S64x1x1 ![] bcast_S_S64x1x1 : (⟨S_, .f32⟩ : BufTy).Contents (Elt F) → (⟨S64x1x1, .f32⟩ : BufTy).Contents (Elt F)),
    StableHlo.nullary main_c (constantI S_ 32 0#32),
    StableHlo.nullary main_c_4 (constantI S_ 32 0#32),
    StableHlo.nullary main_c_5 (constantI S_ 32 0#32),
    StableHlo.binaryIndexed main_v13 main_v14 ![main_c, main_c_4, main_c_5] ⟨S_, .i32⟩ main_v15 ((fun x u i => Host.dynamicUpdateSlice x u (fun k => (i k (Shape.Idx.first h_S_)).toInt) updateFits_S64x514x514_S64x1x1) : (⟨S64x514x514, .f32⟩ : BufTy).Contents (Elt F) → (⟨S64x1x1, .f32⟩ : BufTy).Contents (Elt F) → (Fin 3 → (⟨S_, .i32⟩ : BufTy).Contents (Elt F)) → (⟨S64x514x514, .f32⟩ : BufTy).Contents (Elt F)),
    StableHlo.nullary main_c_6 (constantI S_ 32 0#32),
    StableHlo.nullary main_c_7 (constantI S_ 32 0#32),
    StableHlo.unary main_v12 main_v16_0 id,
    StableHlo.unary main_c_7 main_v16_1 id,
    StableHlo.unary main_c_6 main_v16_2 id,
    StableHlo.unary main_v15 main_v16_3 id ]

/-- After the loop: the corner cell of every problem. -/
abbrev postOps : List (HloOp τ sig (Elt F)) :=
  [ StableHlo.unary main_v16_3 main_v17 ((extractStridedSlice S64x1x1 ![0, 512, 512] · slices_S64x514x514_S64x1x1_0_512_512) : (⟨S64x514x514, .f32⟩ : BufTy).Contents (Elt F) → (⟨S64x1x1, .f32⟩ : BufTy).Contents (Elt F)),
    StableHlo.reshape main_v17 main_v18 (rfl : (.f32 : EltTy) = .f32) shapeCasts_S64x1x1_S64 ]

theorem main_eq (c : Dev nD) : main (F := F) c
    = Pipeline.chain (([preOps (F := F)].map fun ops => (StableHlo.seq ops : Prog _ PUnit)) ++ HostLoop.enter 0 ::
        [postOps (F := F)].map fun ops => (StableHlo.seq ops : Prog _ PUnit)) := by
  rfl

theorem body_eq : main_while0_body (F := F)
    = Pipeline.chain ([bodyOps (F := F)].map fun ops => (StableHlo.seq ops : Prog _ PUnit)) := by
  rfl

theorem cond_sub : (condOps (F := F)).Forall fun op => op.bufs ⊆ StableHlo.tcRefs τ sig :=
  ⟨StableHlo.nullary_bufs_sub .., StableHlo.binary_bufs_sub ..⟩

theorem body_sub : (bodyOps (F := F)).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.unaryIndexed_bufs_sub .., StableHlo.nullary_bufs_sub .., StableHlo.binary_bufs_sub .., StableHlo.nullary_bufs_sub .., StableHlo.unaryIndexed_bufs_sub .., StableHlo.binary_bufs_sub .., StableHlo.nullary_bufs_sub .., StableHlo.binary_bufs_sub .., StableHlo.nullary_bufs_sub .., StableHlo.unaryIndexed_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub .., StableHlo.binary_bufs_sub .., StableHlo.unary_bufs_sub .., StableHlo.nullary_bufs_sub .., StableHlo.binary_bufs_sub .., StableHlo.nullary_bufs_sub .., StableHlo.unaryIndexed_bufs_sub .., StableHlo.binary_bufs_sub .., StableHlo.nullary_bufs_sub .., StableHlo.unary_bufs_sub .., StableHlo.ternary_bufs_sub .., StableHlo.nullary_bufs_sub .., StableHlo.binary_bufs_sub .., StableHlo.nullary_bufs_sub .., StableHlo.binary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub ..⟩

theorem pre_sub : (preOps (F := F)).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.nullary_bufs_sub .., StableHlo.nullary_bufs_sub .., StableHlo.nullary_bufs_sub .., StableHlo.binaryIndexed_bufs_sub .., StableHlo.nullary_bufs_sub .., StableHlo.nullary_bufs_sub .., StableHlo.unary_bufs_sub .., StableHlo.unary_bufs_sub .., StableHlo.unary_bufs_sub .., StableHlo.unary_bufs_sub ..⟩

theorem post_sub : (postOps (F := F)).Forall fun op => op.bufs ⊆ StableHlo.tcRefs τ sig :=
  ⟨StableHlo.unary_bufs_sub .., StableHlo.reshape_bufs_sub ..⟩

/-! ## The valuations round the loop -/

variable (m : (ℓ : Loc nD τ sig) → Buf (Elt F) ℓ)

/-- Every buffer's contents before the `k`-th test of the loop. -/
abbrev Wk (k : ℕ) (c : Dev nD) : Valuation τ sig (Elt F) :=
  StableHlo.atTrip condOps [bodyOps] (StableHlo.entryContents [preOps] m) k c

theorem Wk_zero (c : Dev nD) : Wk m 0 c = after preOps (launchContents m c) := rfl
theorem Wk_succ (k : ℕ) (c : Dev nD) : Wk m (k + 1) c = after bodyOps (after condOps (Wk m k c)) := rfl

/-- Every buffer's contents when the program ends. -/
abbrev Wend (c : Dev nD) : Valuation τ sig (Elt F) := after postOps (after condOps (Wk m 262144 c))

/-- The test writes none of the carried buffers. -/
theorem cond_ctr (X : Valuation τ sig (Elt F)) : after condOps X main_v16_1 = X main_v16_1 := by after_reads_simp
theorem cond_idx (X : Valuation τ sig (Elt F)) : after condOps X main_v16_2 = X main_v16_2 := by after_reads_simp
theorem cond_dst (X : Valuation τ sig (Elt F)) : after condOps X main_v16_0 = X main_v16_0 := by after_reads_simp
theorem cond_tab (X : Valuation τ sig (Elt F)) : after condOps X main_v16_3 = X main_v16_3 := by after_reads_simp
theorem cond_arg0 (X : Valuation τ sig (Elt F)) : after condOps X main_arg0 = X main_arg0 := by after_reads_simp
theorem cond_arg1 (X : Valuation τ sig (Elt F)) : after condOps X main_arg1 = X main_arg1 := by after_reads_simp

/-- One trip leaves the counter and the cell's number one more, and the squared distances and the arguments alone. -/
theorem body_ctr (X : Valuation τ sig (Elt F)) :
    after bodyOps X main_v16_1 = addi (X main_v16_1) (constantI S_ 32 1#32) := by after_reads_simp; rfl
theorem body_idx (X : Valuation τ sig (Elt F)) :
    after bodyOps X main_v16_2 = addi (X main_v16_2) (constantI S_ 32 1#32) := by after_reads_simp; rfl
theorem body_dst (X : Valuation τ sig (Elt F)) : after bodyOps X main_v16_0 = X main_v16_0 := by after_reads_simp
theorem body_arg0 (X : Valuation τ sig (Elt F)) : after bodyOps X main_arg0 = X main_arg0 := by after_reads_simp
theorem body_arg1 (X : Valuation τ sig (Elt F)) : after bodyOps X main_arg1 = X main_arg1 := by after_reads_simp

theorem pre_ctr (X : Valuation τ sig (Elt F)) : after preOps X main_v16_1 = constantI S_ 32 0#32 := by after_reads_simp; rfl
theorem pre_idx (X : Valuation τ sig (Elt F)) : after preOps X main_v16_2 = constantI S_ 32 0#32 := by after_reads_simp; rfl
theorem pre_arg0 (X : Valuation τ sig (Elt F)) : after preOps X main_arg0 = X main_arg0 := by after_reads_simp
theorem pre_arg1 (X : Valuation τ sig (Elt F)) : after preOps X main_arg1 = X main_arg1 := by after_reads_simp
theorem post_arg0 (X : Valuation τ sig (Elt F)) : after postOps X main_arg0 = X main_arg0 := by after_reads_simp
theorem post_arg1 (X : Valuation τ sig (Elt F)) : after postOps X main_arg1 = X main_arg1 := by after_reads_simp
theorem post_tab (X : Valuation τ sig (Elt F)) : after postOps X main_v16_3 = X main_v16_3 := by after_reads_simp

/-- The counter before the `k`-th test is `k`, and so is the number of the cell. -/
theorem Wk_ctr (c : Dev nD) : ∀ k, Wk m k c main_v16_1 = fun _ => (BitVec.ofNat 32 k : BitVec 32)
  | 0 => pre_ctr (launchContents m c)
  | k + 1 => by
    rw [Wk_succ, body_ctr, cond_ctr, Wk_ctr c k]
    funext i
    show BitVec.ofNat 32 k + 1#32 = BitVec.ofNat 32 (k + 1)
    rw [BitVec.ofNat_add]
theorem Wk_idx (c : Dev nD) : ∀ k, Wk m k c main_v16_2 = fun _ => (BitVec.ofNat 32 k : BitVec 32)
  | 0 => pre_idx (launchContents m c)
  | k + 1 => by
    rw [Wk_succ, body_idx, cond_idx, Wk_idx c k]
    funext i
    show BitVec.ofNat 32 k + 1#32 = BitVec.ofNat 32 (k + 1)
    rw [BitVec.ofNat_add]
theorem Wk_arg0 (c : Dev nD) : ∀ k, Wk m k c main_arg0 = m (c.tc.loc main_arg0)
  | 0 => pre_arg0 (launchContents m c)
  | k + 1 => by rw [Wk_succ, body_arg0, cond_arg0, Wk_arg0 c k]
theorem Wk_arg1 (c : Dev nD) : ∀ k, Wk m k c main_arg1 = m (c.tc.loc main_arg1)
  | 0 => pre_arg1 (launchContents m c)
  | k + 1 => by rw [Wk_succ, body_arg1, cond_arg1, Wk_arg1 c k]
/-- The squared distances stay as they were when the loop was entered. -/
theorem Wk_dst (c : Dev nD) : ∀ k, Wk m k c main_v16_0 = after preOps (launchContents m c) main_v16_0
  | 0 => rfl
  | k + 1 => by rw [Wk_succ, body_dst, cond_dst, Wk_dst c k]

omit [FloatOps F] in
/-- A host operation touches no scoped buffer. -/
theorem sub_ucRefs (op : HloOp τ sig (Elt F)) (h : op.bufs ⊆ StableHlo.tcRefs τ sig) : op.bufs ⊆ Pipeline.ucRefs τ sig :=
  fun b hb => Finset.mem_filter.mpr ⟨h hb, fun h' => Bool.false_ne_true ((op.no_scoped b hb).symm.trans h')⟩

/-- The test answers one exactly on the first 262144 numbers. -/
theorem test_iff (k : ℕ) (hk : k ≤ 262144) : IntOp.cmpi .slt (BitVec.ofNat 32 k) 262144#32 = 1#1 ↔ k < 262144 := by
  rw [show (262144#32 : BitVec 32) = BitVec.ofNat 32 262144 from rfl, WordCmp.cmpi_slt_ofNat (show k < 2 ^ (32 - 1) by omega) (by decide)]
  by_cases h : k < 262144 <;> simp [h]

set_option backward.isDefEq.respectTransparency.types false in
/-- The loop's test, run for the `k`-th time. -/
theorem cond_spec : StableHlo.CondSpec (pcfgs (F := F)) defs₀ loops main_while0_cond condOps [bodyOps]
    (StableHlo.entryContents [preOps] m) 262144 := by
  intro k hk c bd
  have hctr := Wk_ctr m c k
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v16_1 HostLoop.idx0)
        (HloOp.result _ (Wk m k c) main_while0c_c_11 HostLoop.idx0) = 1#1) (k < 262144)
    rw [StableHlo.nullary_result_ne _ _ _ _ (by decide), StableHlo.nullary_result, hctr]
    exact test_iff k hk
  isplitl [Hb]; · iexact Hb
  rw [StableHlo.after_cons, StableHlo.after_cons, StableHlo.after_nil]; iexact Hh

/-- The run: it ends, with the argument arrays as launched, the table and the corner cells at the loop's fold. -/
theorem run_main (ρ : Dev nD → PrngReg) :
    θ_run defs (onTc (τ := τ) (main (F := F))) ⟨m, fun _ => 0, ρ⟩ (fun r =>
      (∀ c : Dev nD, r.2.mem (c.tc.loc main_v18) = Wend m c main_v18 ∧ r.2.mem (c.tc.loc main_v16_3) = Wend m c main_v16_3
        ∧ r.2.mem (c.tc.loc main_arg0) = m (c.tc.loc main_arg0) ∧ r.2.mem (c.tc.loc main_arg1) = m (c.tc.loc main_arg1))
      ∧ r.2.sem = fun _ => 0) := by
  refine θ_run_mono (StableHlo.run_loop (pcfgs (F := F)) defs₀ loops main 0 main_while0_cond main_while0_body rfl
    [preOps] [bodyOps] [postOps] condOps (.cons pre_sub .nil) (.cons body_sub .nil) (.cons post_sub .nil)
    main_eq body_eq 262144 m ρ (cond_spec m)) ?_
  intro r h
  refine ⟨fun c => ⟨h c main_v18 rfl, h c main_v16_3 rfl, (h c main_arg0 rfl).trans ?_, (h c main_arg1 rfl).trans ?_⟩, ?_⟩
  · show Wend m c main_arg0 = _
    rw [Wend, post_arg0, cond_arg0, Wk_arg0]
  · show Wend m c main_arg1 = _
    rw [Wend, post_arg1, cond_arg1, Wk_arg1]
  · funext g
    rcases g with ⟨t, s⟩
    cases s with
    | reg i => exact absurd i.2 (Nat.not_lt_zero _)
    | dma i => exact absurd i.2 (Nat.not_lt_zero _)

/-- The reference ends with its argument arrays as launched and every semaphore at zero. -/
theorem frame (ρ : Dev nD → PrngReg) :
    θ_run defs (onTc (τ := τ) (main (F := F))) ⟨m, fun _ => 0, ρ⟩ (fun r =>
      (∀ c : Dev nD, r.2.mem (c.tc.loc main_arg0) = m (c.tc.loc main_arg0) ∧ r.2.mem (c.tc.loc main_arg1) = m (c.tc.loc main_arg1))
      ∧ r.2.sem = fun _ => 0) :=
  θ_run_mono (run_main m ρ) fun _ h => ⟨fun c => (h.1 c).2.2, h.2⟩

end Cert.ReferenceIdeal.Hand

end
-- ==== Proof.Table.lean ====
/-
  THE TABLE, as plain mathematics over the extended reals. `T d` is the padded dynamic-programming table of a matrix
  of distances `d`: row and column zero hold infinity but for a zero in the corner, and cell (i + 1, j + 1) holds, within
  51 columns of the diagonal, the distance plus the best of its three neighbours. A row is also the solution of a
  one-dimensional recurrence along the row, and `scan_eq` says that a four-ary scan by jumps of 1, 4, 16 and 64 lanes
  solves it up to a remainder 128 lanes back. `row_eq` puts the two together.
-/
module

public import Mathlib.Data.EReal.Operations

@[expose] public section

noncomputable section

namespace Cert.Table

/-- Cell (i, j) of the table lies within 51 columns of the diagonal. -/
abbrev Band (i j : ℕ) : Prop := (i < 512 ∧ j < 512) ∧ i ≤ j + 51 ∧ j ≤ i + 51

/-- The padded table of the distances `d`. -/
def T (d : ℕ → ℕ → EReal) : ℕ → ℕ → EReal
  | 0, 0 => 0
  | 0, _ + 1 => ⊤
  | _ + 1, 0 => ⊤
  | i + 1, j + 1 => if Band i j then min (min (T d i j) (T d i (j + 1))) (T d (i + 1) j) + d i j else ⊤

variable (d : ℕ → ℕ → EReal)

theorem T_zero_zero : T d 0 0 = 0 := by rw [T]
theorem T_zero_succ (j : ℕ) : T d 0 (j + 1) = ⊤ := by rw [T]
theorem T_succ_zero (i : ℕ) : T d (i + 1) 0 = ⊤ := by rw [T]
theorem T_succ_succ (i j : ℕ) :
    T d (i + 1) (j + 1) = if Band i j then min (min (T d i j) (T d i (j + 1))) (T d (i + 1) j) + d i j else ⊤ := by rw [T]

/-- Off the band a cell is infinite. -/
theorem T_off {i j : ℕ} (h : ¬ Band i j) : T d (i + 1) (j + 1) = ⊤ := by rw [T_succ_succ, if_neg h]

/-- Equal distances on the band make equal tables. -/
theorem T_congr {d d' : ℕ → ℕ → EReal} (h : ∀ i j, i < 512 → j < 512 → d i j = d' i j) : ∀ i j, T d i j = T d' i j
  | 0, 0 => by rw [T_zero_zero, T_zero_zero]
  | 0, _ + 1 => by rw [T_zero_succ, T_zero_succ]
  | _ + 1, 0 => by rw [T_succ_zero, T_succ_zero]
  | i + 1, j + 1 => by
    rw [T_succ_succ, T_succ_succ, T_congr h i j, T_congr h i (j + 1), T_congr h (i + 1) j]
    by_cases hb : Band i j
    · rw [if_pos hb, if_pos hb, h i j hb.1.1 hb.1.2]
    · rw [if_neg hb, if_neg hb]

/-! ## Rows of lanes -/

/-- A row moved `k` lanes to the right, infinity shifted in. -/
def sh (k : ℕ) (f : ℕ → EReal) : ℕ → EReal := fun w => if w < k then ⊤ else f (w - k)

theorem sh_sh (k l : ℕ) (f : ℕ → EReal) : sh k (sh l f) = sh (l + k) f := by
  funext w
  unfold sh
  by_cases h : w < k
  · rw [if_pos h, if_pos (by omega)]
  · rw [if_neg h]
    by_cases h' : w - k < l
    · rw [if_pos h', if_pos (by omega)]
    · rw [if_neg h', if_neg (by omega)]; congr 1; omega

/-- The lanewise sum and minimum. -/
def ad (f g : ℕ → EReal) : ℕ → EReal := fun w => f w + g w
def mn (f g : ℕ → EReal) : ℕ → EReal := fun w => min (f w) (g w)

theorem sh_ad (k : ℕ) (f g : ℕ → EReal) : sh k (ad f g) = ad (sh k f) (sh k g) := by
  funext w
  show (if w < k then ⊤ else f (w - k) + g (w - k)) = (if w < k then ⊤ else f (w - k)) + (if w < k then ⊤ else g (w - k))
  by_cases h : w < k
  · rw [if_pos h, if_pos h, if_pos h, EReal.top_add_top]
  · rw [if_neg h, if_neg h, if_neg h]

theorem sh_mn (k : ℕ) (f g : ℕ → EReal) : sh k (mn f g) = mn (sh k f) (sh k g) := by
  funext w
  show (if w < k then ⊤ else min (f (w - k)) (g (w - k)))
    = min (if w < k then ⊤ else f (w - k)) (if w < k then ⊤ else g (w - k))
  by_cases h : w < k
  · rw [if_pos h, if_pos h, if_pos h, min_self]
  · rw [if_neg h, if_neg h, if_neg h]

theorem add_min_right (a b c : EReal) : min a b + c = min (a + c) (b + c) :=
  Monotone.map_min (f := fun x : EReal => x + c) fun _ _ h => add_le_add_left h c

theorem mn_ad (f g h : ℕ → EReal) : ad (mn f g) h = mn (ad f h) (ad g h) := funext fun w => add_min_right _ _ _
theorem ad_assoc (f g h : ℕ → EReal) : ad (ad f g) h = ad f (ad g h) := funext fun w => add_assoc _ _ _
theorem ad_comm (f g : ℕ → EReal) : ad f g = ad g f := funext fun w => add_comm _ _
theorem mn_assoc (f g h : ℕ → EReal) : mn (mn f g) h = mn f (mn g h) := funext fun w => min_assoc _ _ _

/-! ## The scan -/

/-- Cost of the last 2, 3 and 4 jumps of `L` lanes, one jump's cost being `s`. -/
def c2 (L : ℕ) (s : ℕ → EReal) : ℕ → EReal := ad s (sh L s)
def c3 (L : ℕ) (s : ℕ → EReal) : ℕ → EReal := ad (c2 L s) (sh (2 * L) s)
def c4 (L : ℕ) (s : ℕ → EReal) : ℕ → EReal := ad (c3 L s) (sh (3 * L) s)

/-- One round of the scan by jumps of `L` lanes. -/
def round (L : ℕ) (m s : ℕ → EReal) : ℕ → EReal :=
  mn (mn (mn m (ad (sh L m) s)) (ad (sh (2 * L) m) (c2 L s))) (ad (sh (3 * L) m) (c3 L s))

/-- One step of the recurrence, unfolded once more. -/
theorem unfold_once {r m s : ℕ → EReal} {L k : ℕ} {c : ℕ → EReal} (h : r = mn m (ad (sh L r) s)) :
    ad (sh k r) c = mn (ad (sh k m) c) (ad (sh (L + k) r) (ad c (sh k s))) := by
  conv_lhs => rw [h]
  rw [sh_mn, sh_ad, sh_sh, mn_ad, ad_assoc, ad_comm (sh k s) c]

/-- A solution of the recurrence by jumps of `L` lanes is one, after a round, by jumps of `4 L`. -/
theorem round_eq {r m s : ℕ → EReal} {L : ℕ} (h : r = mn m (ad (sh L r) s)) :
    r = mn (round L m s) (ad (sh (4 * L) r) (c4 L s)) := by
  conv_lhs => rw [h, unfold_once h, unfold_once h, unfold_once h]
  unfold round c4 c3 c2
  rw [show L + L = 2 * L by omega, show L + 2 * L = 3 * L by omega, show L + 3 * L = 4 * L by omega]
  rw [mn_assoc, mn_assoc, mn_assoc]

/-- The last round only doubles. -/
theorem double_eq {r m s : ℕ → EReal} {L : ℕ} (h : r = mn m (ad (sh L r) s)) :
    r = mn (mn m (ad (sh L m) s)) (ad (sh (2 * L) r) (c2 L s)) := by
  conv_lhs => rw [h, unfold_once h]
  unfold c2
  rw [show L + L = 2 * L by omega, mn_assoc]

/-- The whole scan: rounds by 1, 4 and 16 lanes and a doubling by 64. -/
def scan (m s : ℕ → EReal) : ℕ → EReal :=
  mn (round 16 (round 4 (round 1 m s) (c4 1 s)) (c4 4 (c4 1 s)))
    (ad (sh 64 (round 16 (round 4 (round 1 m s) (c4 1 s)) (c4 4 (c4 1 s)))) (c4 16 (c4 4 (c4 1 s))))

theorem scan_eq {r m s : ℕ → EReal} (h : r = mn m (ad (sh 1 r) s)) :
    r = mn (scan m s) (ad (sh 128 r) (c2 64 (c4 16 (c4 4 (c4 1 s))))) :=
  double_eq (round_eq (round_eq (round_eq h)))

/-- No lane of `f` up to lane `n` is minus infinity. -/
def NB (n : ℕ) (f : ℕ → EReal) : Prop := ∀ w, w < n → f w ≠ ⊥

theorem NB.sh {n k : ℕ} {f : ℕ → EReal} (h : NB n f) : NB n (sh k f) := fun w hw => by
  unfold Table.sh
  by_cases hk : w < k
  · rw [if_pos hk]; exact top_ne_bot
  · rw [if_neg hk]; exact h _ (by omega)

theorem NB.ad {n : ℕ} {f g : ℕ → EReal} (hf : NB n f) (hg : NB n g) : NB n (ad f g) := fun w hw h => by
  rcases EReal.add_eq_bot_iff.mp h with h | h
  · exact hf w hw h
  · exact hg w hw h

theorem NB.c2 {n L : ℕ} {s : ℕ → EReal} (h : NB n s) : NB n (c2 L s) := h.ad h.sh
theorem NB.c3 {n L : ℕ} {s : ℕ → EReal} (h : NB n s) : NB n (c3 L s) := h.c2.ad h.sh
theorem NB.c4 {n L : ℕ} {s : ℕ → EReal} (h : NB n s) : NB n (c4 L s) := h.c3.ad h.sh

/-- The solution of the recurrence of jumps of one lane. -/
def sol (m s : ℕ → EReal) : ℕ → EReal
  | 0 => m 0
  | w + 1 => min (m (w + 1)) (sol m s w + s (w + 1))

theorem sol_eq {m s : ℕ → EReal} (h0 : s 0 ≠ ⊥) : sol m s = mn m (ad (sh 1 (sol m s)) s) := by
  funext w
  cases w with
  | zero =>
    show m 0 = min (m 0) ((if 0 < 1 then ⊤ else _) + s 0)
    rw [if_pos (by omega), EReal.top_add_of_ne_bot h0, min_eq_left le_top]
  | succ w =>
    show min (m (w + 1)) (sol m s w + s (w + 1)) = min (m (w + 1)) ((if w + 1 < 1 then ⊤ else sol m s (w + 1 - 1)) + s (w + 1))
    rw [if_neg (by omega), Nat.add_sub_cancel]

/-- The scan solves the recurrence at a lane whose 128-th neighbour to the left is infinite. -/
theorem scan_sol {m s : ℕ → EReal} {n w : ℕ} (hs : NB n s) (hw : w < n) (h : 128 ≤ w → sol m s (w - 128) = ⊤) :
    scan m s w = sol m s w := by
  have e := congrFun (scan_eq (sol_eq (m := m) (hs 0 (by omega)))) w
  have hb : (c2 64 (c4 16 (c4 4 (c4 1 s)))) w ≠ ⊥ := (NB.c2 (NB.c4 (NB.c4 (NB.c4 hs)))) w hw
  rw [e]
  show _ = min _ ((if w < 128 then ⊤ else sol m s (w - 128)) + _)
  have ht : (if w < 128 then ⊤ else sol m s (w - 128)) = ⊤ := by
    by_cases h' : w < 128
    · rw [if_pos h']
    · rw [if_neg h', h (by omega)]
  rw [ht, EReal.top_add_of_ne_bot hb, min_eq_left le_top]

/-! ## One row of the table -/

/-- What a lane would hold without a step along the row. -/
def base (o i : ℕ) (prev s : ℕ → EReal) : ℕ → EReal := fun w =>
  if Band i (o + w) then min (if o + w = 0 then (if i = 0 then 0 else ⊤) else sh 1 prev w) (prev w) + s w else ⊤

/-- One row as the scan computes it. -/
def row (o i : ℕ) (prev s : ℕ → EReal) : ℕ → EReal := fun w =>
  if Band i (o + w) then scan (base o i prev s) s w else ⊤

variable {d} in
/-- The recurrence's solution left of the band is infinite. -/
theorem sol_left {o i : ℕ} {prev s : ℕ → EReal} (hnb : NB 256 s) :
    ∀ w, w < 256 → o + w + 51 < i → sol (base o i prev s) s w = ⊤
  | 0, _, h => by
    show base o i prev s 0 = ⊤
    unfold base
    rw [if_neg (by omega)]
  | w + 1, hw, h => by
    show min (base o i prev s (w + 1)) (sol (base o i prev s) s w + s (w + 1)) = ⊤
    rw [sol_left hnb w (by omega) (by omega), EReal.top_add_of_ne_bot (hnb _ hw), min_eq_left le_top]
    unfold base
    rw [if_neg (by omega)]

/-- On the band it is the table's row. -/
theorem sol_band {o i : ℕ} {prev s : ℕ → EReal} (ho : o = 0 ∨ o + 51 < i)
    (hprev : ∀ w, w < 256 → prev w = T d i (o + w + 1)) (hs : ∀ w, w < 256 → Band i (o + w) → s w = d i (o + w))
    (hnb : NB 256 s) :
    ∀ w, w < 256 → Band i (o + w) → sol (base o i prev s) s w = T d (i + 1) (o + w + 1)
  | 0, _, h => by
    have h0 : o = 0 := by omega
    subst h0
    show base 0 i prev s 0 = _
    unfold base
    rw [if_pos h, if_pos (by omega), hprev 0 (by omega), hs 0 (by omega) h, T_succ_succ, if_pos h]
    rw [show (0 + 0 : ℕ) = 0 from rfl, T_succ_zero, min_eq_left (a := min _ _) le_top]
    cases i with
    | zero => rw [if_pos rfl, T_zero_zero]
    | succ i => rw [if_neg (by omega), T_succ_zero]
  | w + 1, hw, h => by
    have hl : sol (base o i prev s) s w = T d (i + 1) (o + w + 1) := by
      by_cases hb : Band i (o + w)
      · exact sol_band ho hprev hs hnb w (by omega) hb
      · rw [sol_left hnb w (by omega) (by omega), T_off d hb]
    show min (base o i prev s (w + 1)) (sol (base o i prev s) s w + s (w + 1)) = _
    rw [hl, T_succ_succ d i (o + (w + 1)), if_pos h, ← hs (w + 1) hw h, add_min_right]
    congr 1
    unfold base
    rw [if_pos h, if_neg (by omega), hprev (w + 1) hw]
    unfold sh
    rw [if_neg (by omega), Nat.add_sub_cancel, hprev w (by omega)]
    rfl

/-- The row the scan computes is the table's. -/
theorem row_eq {o i : ℕ} {prev s : ℕ → EReal} (ho : o = 0 ∨ o + 51 < i)
    (hprev : ∀ w, w < 256 → prev w = T d i (o + w + 1)) (hs : ∀ w, w < 256 → Band i (o + w) → s w = d i (o + w))
    (hnb : NB 256 s) {w : ℕ} (hw : w < 256) : row o i prev s w = T d (i + 1) (o + w + 1) := by
  unfold row
  by_cases hb : Band i (o + w)
  · rw [if_pos hb, scan_sol hnb hw fun h => sol_left hnb _ (by omega) (by omega)]
    exact sol_band d ho hprev hs hnb w hw hb
  · rw [if_neg hb, T_off d hb]

end Cert.Table

end
-- ==== Proof.RowMath.lean ====
/-
  One row of the kernel's table over the extended reals: the operations of `RowDefs` read lane by lane are those of
  `Table`, so `rowNew` computes `Table.row`.
-/
module

public import proofs.«01_k».proof.Proof.RowDefs
public import proofs.«01_k».proof.Proof.Table
public import Idealize.ShloMosaic.PureOps.Ideal
public import Idealize.ShloMosaic.Lib.IdealHost
public import Idealize.ShloMosaic.Lib.Pointwise
public import Idealize.ShloMosaic.Lib.WordCmp

@[expose] public section

noncomputable section

namespace Cert.KernelIdeal.Hand

open Cert.KernelIdeal Cert.KernelIdeal.Gen Cert.Table
open Idealize.ShloMosaic Idealize.ShloMosaic.TcCoe

/-- Lanes `w < 256` of row `b` of `x` hold `f w`. -/
def Rd (x : FVec Ideal S64x256 .f32) (b : Fin 64) (f : ℕ → EReal) : Prop :=
  ∀ w (h : w < 256), x (ix2 b ⟨w, h⟩) = f w

theorem infF_eq : (infF : Ideal .f32) = (⊤ : EReal) := by
  show Ideal.ofBits .f32 0x7F800000#32 = ⊤
  simp [Ideal.ofBits, Ideal.ieee]

variable {x y z p q r u : FVec Ideal S64x256 .f32} {b : Fin 64} {f g : ℕ → EReal}

theorem Rd.addf (hx : Rd x b f) (hy : Rd y b g) : Rd (addf x y) b (ad f g) := fun w h => by
  show x _ + y _ = _
  rw [hx w h, hy w h]; rfl

theorem Rd.minimumf (hx : Rd x b f) (hy : Rd y b g) : Rd (minimumf x y) b (mn f g) := fun w h => by
  show min (x _) (y _) = _
  rw [hx w h, hy w h]; rfl

/-! The shifts. -/

theorem Rd.sh1 (hx : Rd x b f) : Rd (sh1 x) b (sh 1 f) := fun w h => by
  unfold Hand.sh1 shl Table.sh
  pointwise [infF_eq]
  by_cases hk : w < 1
  · exact (dif_pos hk).trans (if_pos hk).symm
  · exact ((dif_neg hk).trans (hx _ _)).trans (if_neg hk).symm
theorem Rd.sh2 (hx : Rd x b f) : Rd (sh2 x) b (sh 2 f) := fun w h => by
  unfold Hand.sh2 shl Table.sh
  pointwise [infF_eq]
  by_cases hk : w < 2
  · exact (dif_pos hk).trans (if_pos hk).symm
  · exact ((dif_neg hk).trans (hx _ _)).trans (if_neg hk).symm
theorem Rd.sh3 (hx : Rd x b f) : Rd (sh3 x) b (sh 3 f) := fun w h => by
  unfold Hand.sh3 shl Table.sh
  pointwise [infF_eq]
  by_cases hk : w < 3
  · exact (dif_pos hk).trans (if_pos hk).symm
  · exact ((dif_neg hk).trans (hx _ _)).trans (if_neg hk).symm
theorem Rd.sh4 (hx : Rd x b f) : Rd (sh4 x) b (sh 4 f) := fun w h => by
  unfold Hand.sh4 shl Table.sh
  pointwise [infF_eq]
  by_cases hk : w < 4
  · exact (dif_pos hk).trans (if_pos hk).symm
  · exact ((dif_neg hk).trans (hx _ _)).trans (if_neg hk).symm
theorem Rd.sh8 (hx : Rd x b f) : Rd (sh8 x) b (sh 8 f) := fun w h => by
  unfold Hand.sh8 shl Table.sh
  pointwise [infF_eq]
  by_cases hk : w < 8
  · exact (dif_pos hk).trans (if_pos hk).symm
  · exact ((dif_neg hk).trans (hx _ _)).trans (if_neg hk).symm
theorem Rd.sh12 (hx : Rd x b f) : Rd (sh12 x) b (sh 12 f) := fun w h => by
  unfold Hand.sh12 shl Table.sh
  pointwise [infF_eq]
  by_cases hk : w < 12
  · exact (dif_pos hk).trans (if_pos hk).symm
  · exact ((dif_neg hk).trans (hx _ _)).trans (if_neg hk).symm
theorem Rd.sh16 (hx : Rd x b f) : Rd (sh16 x) b (sh 16 f) := fun w h => by
  unfold Hand.sh16 shl Table.sh
  pointwise [infF_eq]
  by_cases hk : w < 16
  · exact (dif_pos hk).trans (if_pos hk).symm
  · exact ((dif_neg hk).trans (hx _ _)).trans (if_neg hk).symm
theorem Rd.sh32 (hx : Rd x b f) : Rd (sh32 x) b (sh 32 f) := fun w h => by
  unfold Hand.sh32 shl Table.sh
  pointwise [infF_eq]
  by_cases hk : w < 32
  · exact (dif_pos hk).trans (if_pos hk).symm
  · exact ((dif_neg hk).trans (hx _ _)).trans (if_neg hk).symm
theorem Rd.sh48 (hx : Rd x b f) : Rd (sh48 x) b (sh 48 f) := fun w h => by
  unfold Hand.sh48 shl Table.sh
  pointwise [infF_eq]
  by_cases hk : w < 48
  · exact (dif_pos hk).trans (if_pos hk).symm
  · exact ((dif_neg hk).trans (hx _ _)).trans (if_neg hk).symm
theorem Rd.sh64 (hx : Rd x b f) : Rd (sh64 x) b (sh 64 f) := fun w h => by
  unfold Hand.sh64 shl Table.sh
  pointwise [infF_eq]
  by_cases hk : w < 64
  · exact (dif_pos hk).trans (if_pos hk).symm
  · exact ((dif_neg hk).trans (hx _ _)).trans (if_neg hk).symm

/-! The scan. -/

theorem Rd.cost2 (h : Rd x b f) : Rd (cost2 x) b (c2 1 f) := h.addf h.sh1
theorem Rd.cost3 (h : Rd x b f) : Rd (cost3 x) b (c3 1 f) := h.cost2.addf h.sh2
theorem Rd.cost4 (h : Rd x b f) : Rd (cost4 x) b (c4 1 f) := h.cost3.addf h.sh3
theorem Rd.cost8 (h : Rd x b f) : Rd (cost8 x) b (c2 4 f) := h.addf h.sh4
theorem Rd.cost12 (h : Rd x b f) : Rd (cost12 x) b (c3 4 f) := h.cost8.addf h.sh8
theorem Rd.cost16 (h : Rd x b f) : Rd (cost16 x) b (c4 4 f) := h.cost12.addf h.sh12
theorem Rd.cost32 (h : Rd x b f) : Rd (cost32 x) b (c2 16 f) := h.addf h.sh16
theorem Rd.cost48 (h : Rd x b f) : Rd (cost48 x) b (c3 16 f) := h.cost32.addf h.sh32
theorem Rd.cost64 (h : Rd x b f) : Rd (cost64 x) b (c4 16 f) := h.cost48.addf h.sh48

theorem Rd.scanA (h : Rd x b f) (hs : Rd y b g) : Rd (scanA x y) b (round 1 f g) :=
  ((h.minimumf (h.sh1.addf hs)).minimumf (h.sh2.addf hs.cost2)).minimumf (h.sh3.addf hs.cost3)
theorem Rd.scanB (h : Rd x b f) (hs : Rd y b g) : Rd (scanB x y) b (round 4 f g) :=
  ((h.minimumf (h.sh4.addf hs)).minimumf (h.sh8.addf hs.cost8)).minimumf (h.sh12.addf hs.cost12)
theorem Rd.scanC (h : Rd x b f) (hs : Rd y b g) : Rd (scanC x y) b (round 16 f g) :=
  ((h.minimumf (h.sh16.addf hs)).minimumf (h.sh32.addf hs.cost32)).minimumf (h.sh48.addf hs.cost48)

theorem Rd.scan (h : Rd x b f) (hs : Rd y b g) :
    Rd (scanD (Hand.scanC (Hand.scanB (Hand.scanA x y) (Hand.cost4 y)) (Hand.cost16 (Hand.cost4 y)))
      (Hand.cost64 (Hand.cost16 (Hand.cost4 y)))) b (scan f g) := by
  have a := ((h.scanA hs).scanB hs.cost4).scanC hs.cost4.cost16
  exact a.minimumf (a.sh64.addf hs.cost4.cost16.cost64)

/-! The band. -/

/-- A difference and a sum of small words. -/
theorem toInt_sub51 {i : BitVec 32} {z : ℤ} (h : i.toInt = z) (hz : -2 ≤ z ∧ z ≤ 2000) : (Scalar.subi i 51#32).toInt = z - 51 := by
  show (i - 51#32).toInt = _
  rw [BitVec.toInt_sub, h, show (51#32 : BitVec 32).toInt = 51 from rfl, Int.bmod_eq_of_le (by omega) (by omega)]
theorem toInt_add51 {i : BitVec 32} {z : ℤ} (h : i.toInt = z) (hz : -2 ≤ z ∧ z ≤ 2000) : (Scalar.addi i 51#32).toInt = z + 51 := by
  show (i + 51#32).toInt = _
  rw [BitVec.toInt_add, h, show (51#32 : BitVec 32).toInt = 51 from rfl, Int.bmod_eq_of_le (by omega) (by omega)]

/-- The band's mask at a lane of row `z`. -/
theorem bandMask_apply {jw : IVec S64x256 32} {i : BitVec 32} {z : ℤ} (hi : i.toInt = z) (hz : -2 ≤ z ∧ z ≤ 2000) (y : S64x256.Idx) :
    bandMask jw i y = BitVec.ofBool (decide (z - 51 ≤ (jw y).toInt) && decide ((jw y).toInt ≤ z + 51)
      && (decide (0 ≤ z) && decide (z < 512))) := by
  show IntOp.andi (IntOp.andi (IntOp.cmpi .sge (jw y) (Scalar.subi i 51#32)) (IntOp.cmpi .sle (jw y) (Scalar.addi i 51#32)))
    (IntOp.andi (IntOp.cmpi .sge i 0#32) (IntOp.cmpi .slt i 512#32)) = _
  rw [WordCmp.cmpi_sge_eq, WordCmp.cmpi_sle_eq, WordCmp.cmpi_sge_eq, WordCmp.cmpi_slt_eq, toInt_sub51 hi hz, toInt_add51 hi hz, hi,
    WordCmp.andi_ofBool, WordCmp.andi_ofBool, WordCmp.andi_ofBool]
  rfl

/-- The lanes hold columns `o`, `o + 1`, … -/
def Cols (jw : IVec S64x256 32) (o : ℕ) : Prop := ∀ b w (h : w < 256), jw (ix2 b ⟨w, h⟩) = BitVec.ofNat 32 (o + w)

variable {jw : IVec S64x256 32} {i : BitVec 32} {o n : ℕ}

theorem Cols.toInt (hj : Cols jw o) (ho : o ≤ 256) (b : Fin 64) {w : ℕ} (h : w < 256) :
    (jw (ix2 b ⟨w, h⟩)).toInt = ((o + w : ℕ) : ℤ) := by
  rw [hj b w h, WordCmp.toInt_ofNat_of_lt (by omega)]

theorem select_dec {α : Type} (P : Prop) [Decidable P] (a c : α) : Scalar.select (BitVec.ofBool (decide P)) a c = if P then a else c := by
  by_cases h : P
  · rw [if_pos h, decide_eq_true h]; rfl
  · rw [if_neg h, decide_eq_false h]; rfl

theorem mask_select (hj : Cols jw o) (ho : o ≤ 256) (hi : i.toInt = (n : ℤ)) (hn : n < 512) (b : Fin 64) {w : ℕ} (h : w < 256)
    (a c : EReal) : Scalar.select (bandMask jw i (ix2 b ⟨w, h⟩)) a c = if Band n (o + w) then a else c := by
  rw [bandMask_apply hi (by omega), hj.toInt ho b h]
  by_cases hb : Band n (o + w)
  · rw [if_pos hb, show (decide ((n : ℤ) - 51 ≤ ((o + w : ℕ) : ℤ)) && decide (((o + w : ℕ) : ℤ) ≤ (n : ℤ) + 51)
      && (decide (0 ≤ (n : ℤ)) && decide ((n : ℤ) < 512))) = true by simp only [Bool.and_eq_true, decide_eq_true_eq]; omega]
    rfl
  · rw [if_neg hb, show (decide ((n : ℤ) - 51 ≤ ((o + w : ℕ) : ℤ)) && decide (((o + w : ℕ) : ℤ) ≤ (n : ℤ) + 51)
      && (decide (0 ≤ (n : ℤ)) && decide ((n : ℤ) < 512))) = false by
        rw [Bool.eq_false_iff]; simp only [ne_eq, Bool.and_eq_true, decide_eq_true_eq]; omega]
    rfl

/-- The row without the steps along it. -/
theorem Rd.rowBase (hj : Cols jw o) (ho : o ≤ 256) (hi : i = BitVec.ofNat 32 n) (hn : n < 512) (hx : Rd x b f) (hy : Rd y b g) :
    Rd (Hand.rowBase jw i x y) b (base o n f g) := fun w h => by
  have hi' : i.toInt = (n : ℤ) := by rw [hi, WordCmp.toInt_ofNat_of_lt (by omega)]
  show Scalar.select (bandMask jw i (ix2 b ⟨w, h⟩)) (min (Scalar.select (IntOp.cmpi .eq (jw (ix2 b ⟨w, h⟩)) 0#32)
      (Scalar.select (Scalar.cmpi .eq i 0#32) (Ideal.ofBits .f32 0x00000000#32) infF) (Hand.sh1 x (ix2 b ⟨w, h⟩))) (x (ix2 b ⟨w, h⟩))
      + y (ix2 b ⟨w, h⟩)) infF = _
  rw [mask_select hj ho hi' hn, hx.sh1 w h, hx w h, hy w h, infF_eq, Ideal.ofBits_zero_f32, hj b w h, hi]
  show (if _ then min (Scalar.select (IntOp.cmpi .eq _ (BitVec.ofNat 32 0)) (Scalar.select (IntOp.cmpi .eq _ (BitVec.ofNat 32 0)) _ _) _) _ + _ else _) = _
  rw [WordCmp.cmpi_eq_ofNat (by omega) (by omega), WordCmp.cmpi_eq_ofNat (by omega) (by omega), select_dec, select_dec]
  rfl

theorem Rd.rowNew (hj : Cols jw o) (ho : o ≤ 256) (hi : i = BitVec.ofNat 32 n) (hn : n < 512) (hx : Rd x b f) (hy : Rd y b g) :
    Rd (Hand.rowNew jw i x y) b (row o n f g) := fun w h => by
  have hi' : i.toInt = (n : ℤ) := by rw [hi, WordCmp.toInt_ofNat_of_lt (by omega)]
  have e := ((Rd.rowBase hj ho hi hn hx hy).scan hy) w h
  show Scalar.select (bandMask jw i (ix2 b ⟨w, h⟩)) _ infF = _
  rw [mask_select hj ho hi' hn, e, infF_eq]
  rfl

/-- Off the table a row is all infinite. -/
theorem Rd.rowNew_off {z : ℤ} (hi : i.toInt = z) (hz : -2 ≤ z ∧ z ≤ 2000) (hz' : z < 0 ∨ 512 ≤ z) : Rd (Hand.rowNew jw i x y) b (fun _ => ⊤) :=
  fun w h => by
    show Scalar.select (bandMask jw i (ix2 b ⟨w, h⟩)) _ infF = _
    rw [bandMask_apply hi hz, show (decide (0 ≤ z) && decide (z < 512)) = false by
        rw [Bool.eq_false_iff]; simp only [ne_eq, Bool.and_eq_true, decide_eq_true_eq]; omega, Bool.and_false, infF_eq]
    rfl

end Cert.KernelIdeal.Hand

end
-- ==== Proof.ChunkMath.lean ====
/-
  A chunk of sixteen rows over the extended reals: from the row kept by the chunk before and the two blocks of distances,
  `chunkRow` computes the next sixteen rows of the table and `chunkOut` lays them out over the 514 padded columns.
-/
module

public import proofs.«01_k».proof.Proof.RowMath

@[expose] public section

noncomputable section

namespace Cert.KernelIdeal.Hand

open Cert.KernelIdeal Cert.KernelIdeal.Gen Cert.Table
open Idealize.ShloMosaic Idealize.ShloMosaic.TcCoe

/-- The distances padded with a row of zeros in front (and behind). -/
def padD (d : ℕ → ℕ → EReal) (p j : ℕ) : EReal := if 1 ≤ p ∧ p ≤ 512 then d (p - 1) j else 0

/-- The two blocks hold chunk `n`'s distances: 128 columns each, from the window's first column on. -/
structure Blocks (D : Fin 64 → ℕ → ℕ → EReal) (n : ℕ) (x0 x1 : Vec Ideal S16x64x128 .bf16) : Prop where
  left : ∀ (r : Fin 16) (b : Fin 64) (w : Fin 128), x0 (ix3 r b w) = padD (D b) (16 * n + r.val) (lbN n * 128 + w.val)
  right : ∀ (r : Fin 16) (b : Fin 64) (w : Fin 128), x1 (ix3 r b w) = padD (D b) (16 * n + r.val) (lbN n * 128 + (w.val + 128))

variable {D : Fin 64 → ℕ → ℕ → EReal} {n : ℕ} {x0 x1 : Vec Ideal S16x64x128 .bf16} {s : FVec Ideal S64x256 .f32}

theorem lbN_le (n : ℕ) : lbN n ≤ 2 := min_le_left _ _

theorem rowAt_apply (x : Vec Ideal S16x64x128 .bf16) {r : ℕ} (hr : r < 16) (b : Fin 64) (w : Fin 128) :
    rowAt x r (ix3 0 b w) = x (ix3 ⟨r, hr⟩ b w) := by
  unfold rowAt
  refine congrArg x (funext fun a => ?_)
  match a with
  | 0 => exact Fin.ext (Nat.mod_eq_of_lt hr)
  | 1 => rfl
  | 2 => rfl

theorem dRow_rd (hB : Blocks D n x0 x1) {r : ℕ} (hr : r < 16) (b : Fin 64) :
    Rd (dRow (rowAt x0 r) (rowAt x1 r)) b (fun w => padD (D b) (16 * n + r) (lbN n * 128 + w)) := fun w h => by
  unfold dRow
  pointwise
  by_cases hw : w < 128
  · exact ((dif_pos hw).trans (rowAt_apply x0 hr b ⟨w, hw⟩)).trans (hB.left ⟨r, hr⟩ b ⟨w, hw⟩)
  · refine ((dif_neg hw).trans (rowAt_apply x1 hr b ⟨w - 128, by omega⟩)).trans ((hB.right ⟨r, hr⟩ b ⟨w - 128, by omega⟩).trans ?_)
    show padD (D b) (16 * n + r) (lbN n * 128 + (w - 128 + 128)) = padD (D b) (16 * n + r) (lbN n * 128 + w)
    rw [show w - 128 + 128 = w by omega]

theorem cols_jwN (n : ℕ) : Cols (jwN n) (lbN n * 128) := fun b w h => by
  show BitVec.ofNat 32 w + BitVec.ofNat 32 (lbN n * 128) = _
  rw [← BitVec.ofNat_add, Nat.add_comm]

/-- What the chunk before keeps: the last row of its table on its window. -/
def Kept (D : Fin 64 → ℕ → ℕ → EReal) (n : ℕ) (s : FVec Ideal S64x256 .f32) : Prop :=
  ∀ b, Rd s b (fun w => if n = 0 then ⊤ else T (D b) (16 * n - 1) (lbN (n - 1) * 128 + w + 1))

/-- The same on this chunk's window. -/
theorem prevIn_rd (hn : n ≤ 33) (hs : Kept D n s) (b : Fin 64) :
    Rd (prevIn n s) b (fun w => if n = 0 then ⊤ else T (D b) (16 * n - 1) (lbN n * 128 + w + 1)) := fun w h => by
  unfold prevIn
  by_cases hsh : lbN (n - 1) + 1 = lbN n
  · rw [if_pos hsh]
    have hn0 : n ≠ 0 := by rintro rfl; exact absurd hsh (Nat.succ_ne_self _)
    show _ = if n = 0 then ⊤ else T (D b) (16 * n - 1) (lbN n * 128 + w + 1)
    rw [if_neg hn0]
    pointwise [infF_eq]
    by_cases hw : w < 128
    · refine (dif_pos hw).trans ?_
      have e := (hs b (128 + w) (by omega)).trans (if_neg hn0)
      refine e.trans ?_
      congr 1
      omega
    · refine (dif_neg hw).trans ?_
      rw [show 16 * n - 1 = (16 * n - 2) + 1 by omega, T_off]
      unfold lbN at *
      omega
  · rw [if_neg hsh, hs b w h]
    have : lbN (n - 1) = lbN n := by unfold lbN at *; omega
    rw [this]

/-- Row `p` of the table, infinite beyond the last. -/
theorem T_after {d : ℕ → ℕ → EReal} {p : ℕ} (hp : 512 < p) (j : ℕ) : T d p (j + 1) = ⊤ := by
  obtain ⟨p, rfl⟩ : ∃ q, p = q + 1 := ⟨p - 1, by omega⟩
  exact T_off d (by omega)

theorem irowN_eq {n r : ℕ} (h : 1 ≤ 16 * n + r) : irowN n r = BitVec.ofNat 32 (16 * n + r - 1) := by
  unfold irowN
  obtain ⟨q, hq⟩ : ∃ q, 16 * n + r = q + 1 := ⟨16 * n + r - 1, by omega⟩
  rw [hq, Nat.add_sub_cancel, BitVec.ofNat_add]
  exact BitVec.add_sub_cancel _ _

/-- One row, from the row above. -/
theorem step_rd (hn : n ≤ 33) (hD : ∀ b i j, i < 512 → j < 512 → D b i j ≠ ⊥) (hB : Blocks D n x0 x1) {r : ℕ} (hr : r < 16) (b : Fin 64)
    {x : FVec Ideal S64x256 .f32} {f : ℕ → EReal} (hx : Rd x b f)
    (hf : 1 ≤ 16 * n + r → ∀ w, w < 256 → f w = T (D b) (16 * n + r - 1) (lbN n * 128 + w + 1)) :
    Rd (rowNew (jwN n) (irowN n r) x (dRow (rowAt x0 r) (rowAt x1 r))) b (fun w => T (D b) (16 * n + r) (lbN n * 128 + w + 1)) := by
  have hl := lbN_le n
  intro w h
  by_cases h0 : 16 * n + r = 0
  · have hn0 : n = 0 := by omega
    have hr0 : r = 0 := by omega
    subst hn0 hr0
    rw [Rd.rowNew_off (z := -1) (by decide) (by omega) (by omega) w h]
    exact (T_zero_succ _ _).symm
  · by_cases hp : 16 * n + r ≤ 512
    · have e := Rd.rowNew (cols_jwN n) (by omega) (irowN_eq (n := n) (r := r) (by omega)) (by omega) hx (dRow_rd hB hr b) w h
      rw [e, row_eq (D b) (by unfold lbN; omega) (hf (by omega)) ?_ ?_ h]
      · congr 1; omega
      · intro w hw _
        unfold padD
        rw [if_pos (by omega)]
      · intro w hw
        show padD (D b) _ _ ≠ ⊥
        unfold padD
        rw [if_pos (by omega)]
        exact hD _ _ _ (by omega) (by omega)
    · rw [Rd.rowNew_off (z := ((16 * n + r - 1 : ℕ) : ℤ)) (by rw [irowN_eq (by omega), WordCmp.toInt_ofNat_of_lt (by omega)])
        (by omega) (by omega) w h]
      exact (T_after (by omega) _).symm

theorem chunkRow_rd (hn : n ≤ 33) (hD : ∀ b i j, i < 512 → j < 512 → D b i j ≠ ⊥) (hB : Blocks D n x0 x1) (hs : Kept D n s) :
    ∀ r, r < 16 → ∀ b, Rd (chunkRow n x0 x1 s r) b (fun w => T (D b) (16 * n + r) (lbN n * 128 + w + 1))
  | 0, hr, b => step_rd hn hD hB hr b (prevIn_rd hn hs b) fun h w hw => by
      show (if n = 0 then _ else _) = _
      rw [if_neg (by omega)]; rfl
  | r + 1, hr, b => step_rd hn hD hB hr b (chunkRow_rd hn hD hB hs r (by omega) b) fun h w hw => rfl

/-- What the chunk keeps for the next. -/
theorem chunk_kept (hn : n ≤ 33) (hD : ∀ b i j, i < 512 → j < 512 → D b i j ≠ ⊥) (hB : Blocks D n x0 x1) (hs : Kept D n s) :
    Kept D (n + 1) (chunkRow n x0 x1 s 15) := fun b w h => by
  rw [chunkRow_rd hn hD hB hs 15 (by omega) b w h]
  exact (if_neg (Nat.succ_ne_zero n)).symm

/-! The row laid out. -/

theorem quarter_rd {p l k : ℕ} {lb kw kw' : BitVec 32} {d : ℕ → ℕ → EReal} {x : FVec Ideal S64x256 .f32} {b : Fin 64}
    (hx : Rd x b (fun w => T d p (l * 128 + w + 1))) (hl : l ≤ 2) (hlb : lb = BitVec.ofNat 32 l) (hkw : kw = BitVec.ofNat 32 k)
    (hk : k < 4) (hkw' : lb = kw' ↔ l + 1 = k) {v : ℕ} (hv : v < 128)
    (hoff : l ≠ k → l + 1 ≠ k → T d p (k * 128 + v + 1) = ⊤) :
    quarter lb kw kw' x (ix2 b ⟨v, hv⟩) = T d p (k * 128 + v + 1) := by
  unfold quarter
  pointwise [infF_eq]
  have e1 : IntOp.cmpi .eq lb kw = BitVec.ofBool (decide (l = k)) := by
    rw [hlb, hkw, WordCmp.cmpi_eq_ofNat (by omega) (by omega)]
  have e2 : IntOp.cmpi .eq lb kw' = BitVec.ofBool (decide (l + 1 = k)) := by
    rw [WordCmp.cmpi_eq_eq]; congr 1; exact decide_eq_decide.mpr hkw'
  show Scalar.select (IntOp.cmpi .eq lb kw) _ (Scalar.select (IntOp.cmpi .eq lb kw') _ _) = _
  rw [e1, e2, select_dec, select_dec]
  by_cases h1 : l = k
  · rw [if_pos h1]
    subst h1
    refine Eq.trans ?_ (hx v (by omega))
    rfl
  · rw [if_neg h1]
    by_cases h2 : l + 1 = k
    · rw [if_pos h2]
      have e := hx (128 + v) (by omega)
      refine e.trans ?_
      show T d p (l * 128 + (128 + v) + 1) = _
      congr 1
      omega
    · rw [if_neg h2, hoff h1 h2]

/-- The block chunk `n` writes is sixteen rows of the table. -/
theorem chunkOut_apply (hn : n ≤ 33) (hD : ∀ b i j, i < 512 → j < 512 → D b i j ≠ ⊥) (hB : Blocks D n x0 x1) (hs : Kept D n s)
    (r : Fin 16) (b : Fin 64) (q : Fin 514) : chunkOut n x0 x1 s (ix3 r b q) = T (D b) (16 * n + r.val) q.val := by
  have hx := chunkRow_rd hn hD hB hs r.val r.isLt b
  have hl := lbN_le n
  have hr := r.isLt
  have hq := q.isLt
  have hoff : ∀ k v, k < 4 → v < 128 → lbN n ≠ k → lbN n + 1 ≠ k → T (D b) (16 * n + r.val) (k * 128 + v + 1) = ⊤ := by
    intro k v hk hv h1 h2
    by_cases h0 : 16 * n + r.val = 0
    · rw [h0, T_zero_succ]
    · rw [show 16 * n + r.val = (16 * n + r.val - 1) + 1 by omega, T_off]
      unfold lbN at *
      omega
  have hqr : ∀ k v (hv : v < 128) (kw kw' : BitVec 32), k < 4 → kw = BitVec.ofNat 32 k → (BitVec.ofNat 32 (lbN n) = kw' ↔ lbN n + 1 = k) →
      quarter (BitVec.ofNat 32 (lbN n)) kw kw' (chunkRow n x0 x1 s r.val) (ix2 b ⟨v, hv⟩) = T (D b) (16 * n + r.val) (k * 128 + v + 1) :=
    fun k v hv kw kw' hk hkw hkw' => quarter_rd hx hl rfl hkw hk hkw' hv (hoff k v hk hv)
  have hlb : lbN n = 0 ∨ lbN n = 1 ∨ lbN n = 2 := by omega
  have e : chunkOut n x0 x1 s (ix3 r b q) = rowFull (BitVec.ofNat 32 (lbN n)) (orowN n r.val) (chunkRow n x0 x1 s r.val) (ix2 b q) := by
    unfold chunkOut
    refine congrArg _ (funext fun a => ?_)
    match a with
    | 0 => rfl
    | 1 => rfl
  rw [e]
  unfold rowFull
  pointwise [infF_eq]
  have hT : ∀ k v, q.val = k * 128 + v + 1 → T (D b) (16 * n + r.val) (k * 128 + v + 1) = T (D b) (16 * n + r.val) q.val :=
    fun k v h => by rw [h]
  by_cases h0 : q.val < 1
  · refine (dif_pos h0).trans ?_
    show Scalar.select (IntOp.cmpi .eq (BitVec.ofNat 32 (16 * n + r.val)) (BitVec.ofNat 32 0)) (0 : EReal) ⊤ = _
    rw [WordCmp.cmpi_eq_ofNat (by omega) (by omega), select_dec, show q.val = 0 by omega]
    by_cases hp : 16 * n + r.val = 0
    · rw [if_pos hp, hp, T_zero_zero]
    · rw [if_neg hp, show 16 * n + r.val = (16 * n + r.val - 1) + 1 by omega, T_succ_zero]
  refine (dif_neg h0).trans ?_
  by_cases h1 : q.val - 1 < 128
  · exact (dif_pos h1).trans ((hqr 0 _ h1 _ _ (by omega) rfl (by rcases hlb with h | h | h <;> rw [h] <;> decide)).trans (hT _ _ (by omega)))
  refine (dif_neg h1).trans ?_
  by_cases h2 : q.val - 1 - 128 < 128
  · exact (dif_pos h2).trans ((hqr 1 _ h2 _ _ (by omega) rfl (by rcases hlb with h | h | h <;> rw [h] <;> decide)).trans (hT _ _ (by omega)))
  refine (dif_neg h2).trans ?_
  by_cases h3 : q.val - 1 - 128 - 128 < 128
  · exact (dif_pos h3).trans ((hqr 2 _ h3 _ _ (by omega) rfl (by rcases hlb with h | h | h <;> rw [h] <;> decide)).trans (hT _ _ (by omega)))
  refine (dif_neg h3).trans ?_
  by_cases h4 : q.val - 1 - 128 - 128 - 128 < 128
  · exact (dif_pos h4).trans ((hqr 3 _ h4 _ _ (by omega) rfl (by rcases hlb with h | h | h <;> rw [h] <;> decide)).trans (hT _ _ (by omega)))
  refine (dif_neg h4).trans ?_
  rw [show q.val = 512 + 1 by omega]
  by_cases hp : 16 * n + r.val = 0
  · rw [hp, T_zero_succ]
  · rw [show 16 * n + r.val = (16 * n + r.val - 1) + 1 by omega, T_off _ (by omega)]

end Cert.KernelIdeal.Hand

end
-- ==== Proof.SqMath.lean ====
/-
  The squared distances over the extended reals: on finite inputs one entry of `sqBlock` is the real
  |x|² + |y|² − 2 x·y, at every batch.
-/
module

public import proofs.«01_k».proof.Proof.SqBody
public import Idealize.ShloMosaic.PureOps.Ideal
public import Idealize.ShloMosaic.Lib.IdealHost
public import Idealize.ShloMosaic.Lib.Pointwise
public import Mathlib.Algebra.BigOperators.Fin
public import Mathlib.Tactic.Ring

@[expose] public section

noncomputable section

namespace Cert.KernelIdeal.Hand

open Cert.KernelIdeal Cert.KernelIdeal.Gen
open Idealize.ShloMosaic Idealize.ShloMosaic.TcCoe

/-- The real squared distance as both programs sum it up. -/
def sqR (x y : Fin 8 → ℝ) : ℝ := (∑ k, x k * x k) + (∑ k, y k * y k) - 2 * ∑ k, x k * y k

theorem coe_sum : ∀ {n : ℕ} (f : Fin n → ℝ), ∑ k, ((f k : ℝ) : EReal) = ((∑ k, f k : ℝ) : EReal)
  | 0, f => by simp
  | n + 1, f => by rw [Fin.sum_univ_castSucc, Fin.sum_univ_castSucc, coe_sum, EReal.coe_add]

theorem ofBits_neg_two : Ideal.ofBits .f32 0xC0000000#32 = ((-2 : ℝ) : EReal) := by
  simp [Ideal.ofBits, Ideal.ieee, -EReal.coe_mul, -EReal.coe_neg]; norm_num

theorem sqBlock_apply (a b : Vec Ideal S1x512x8 .f32) (xr yr : Fin 512 → Fin 8 → ℝ)
    (ha : ∀ i k, a (ix3 0 i k) = ((xr i k : ℝ) : EReal)) (hb : ∀ i k, b (ix3 0 i k) = ((yr i k : ℝ) : EReal)) (i j : Fin 512) :
    sqBlock a b (ix2 i j) = ((sqR (xr i) (yr j) : ℝ) : EReal) := by
  unfold sqBlock
  pointwise [ofBits_neg_two, ha, hb]
  rw [Fin.sum_univ_castSucc (n := 9), Fin.sum_univ_castSucc (n := 8)]
  have h8 : ∀ k : Fin 8, (k.castSucc.castSucc : Fin 10).val < 8 := fun k => k.isLt
  simp only [h8, dite_true]
  refine (show _ = ((∑ k : Fin 8, (xr i k : EReal) * ((-2 : ℝ) : EReal) * (yr j k : EReal)) + (∑ k, (xr i k : EReal) * (xr i k : EReal)) * 1)
    + 1 * (∑ k, (yr j k : EReal) * (yr j k : EReal)) from rfl).trans ?_
  simp only [← EReal.coe_mul, coe_sum, mul_one, one_mul, ← EReal.coe_add]
  congr 1
  unfold sqR
  rw [show (∑ k, xr i k * -2 * yr j k) = -2 * ∑ k, xr i k * yr j k by
    rw [Finset.mul_sum]; exact Finset.sum_congr rfl fun k _ => by ring]
  ring

end Cert.KernelIdeal.Hand

end
-- ==== Proof.ArrMath.lean ====
/-
  The arrays the two regions leave, over the extended reals: the first's is the squared distances, the second's, fed the
  padded distances, is the table.
-/
module

public import proofs.«01_k».proof.Proof.ChunkMath
public import proofs.«01_k».proof.Proof.SqMath
public import proofs.«01_k».proof.Proof.RegSegs
public import Mathlib.Tactic.IntervalCases

@[expose] public section

noncomputable section

namespace Cert.KernelIdeal.Hand

open Cert.KernelIdeal Cert.KernelIdeal.Gen Cert.Table
open Idealize.ShloMosaic Idealize.ShloMosaic.TcCoe
open Idealize.ShloMosaic.Pipeline (Dat)

/-! The windows' blocks. -/

theorem coord0 (t : Fin cfg0.N) : (grid0.coords t 0).val = t.val := by
  have h : t.val < 16 := lt_of_lt_of_eq t.isLt N_0
  rw [Pipeline.Grid.coords_val (G := grid0) t 0 (S := 1) (B := 16) (by decide) rfl]
  omega

theorem map1_0 (i : grid1.Coords) : cc1_transform_0 i = ![(i 0).val, 0, lbN (i 0).val] := by
  have h : (i 0).val < 34 := (i 0).isLt
  unfold cc1_transform_0
  generalize (i 0).val = n at h
  interval_cases n <;> decide

theorem map1_1 (i : grid1.Coords) : cc1_transform_1 i = ![(i 0).val, 0, lbN (i 0).val + 1] := by
  have h : (i 0).val < 34 := (i 0).isLt
  unfold cc1_transform_1
  generalize (i 0).val = n at h
  interval_cases n <;> decide

theorem map1_2 (i : grid1.Coords) : cc1_transform_2 i = ![(i 0).val, 0, 0] := by
  have h : (i 0).val < 34 := (i 0).isLt
  unfold cc1_transform_2
  generalize (i 0).val = n at h
  interval_cases n <;> decide

theorem map0 (i : grid0.Coords) : cc0_transform_0 i = ![(i 0).val, 0, 0] ∧ cc0_transform_1 i = ![(i 0).val, 0, 0]
    ∧ cc0_transform_2 i = ![(i 0).val, 0, 0] := by
  have h : (i 0).val < 16 := (i 0).isLt
  unfold cc0_transform_0 cc0_transform_1 cc0_transform_2
  generalize (i 0).val = n at h
  interval_cases n <;> decide

/-! A block's element in its array. -/

theorem emb1_0 (t : Fin cfg1.N) (r : Fin 16) (b : Fin 64) (w : Fin 128) (h0 : 16 * t.val + r.val < 544)
    (h2 : lbN t.val * 128 + w.val < 512) :
    ((cfg1.win 0).rect t).emb (ix3 r b w) = (ix3 ⟨16 * t.val + r.val, h0⟩ b ⟨lbN t.val * 128 + w.val, h2⟩ : S544x64x512.Idx) := by
  refine funext fun a => Fin.ext ?_
  have e : (cfg1.win 0).index t = ![t.val, 0, lbN t.val] := by rw [← coord1 t]; exact map1_0 (grid1.coords t)
  refine (Pipeline.Window.rect_emb_val (cfg1.win 0) t (ix3 r b w) a).trans ?_
  rw [e]
  match a with
  | 0 => show t.val * 16 + r.val = 16 * t.val + r.val; omega
  | 1 => show 0 * 64 + b.val = b.val; omega
  | 2 => rfl

theorem emb1_1 (t : Fin cfg1.N) (r : Fin 16) (b : Fin 64) (w : Fin 128) (h0 : 16 * t.val + r.val < 544)
    (h2 : lbN t.val * 128 + (w.val + 128) < 512) :
    ((cfg1.win 1).rect t).emb (ix3 r b w) = (ix3 ⟨16 * t.val + r.val, h0⟩ b ⟨lbN t.val * 128 + (w.val + 128), h2⟩ : S544x64x512.Idx) := by
  refine funext fun a => Fin.ext ?_
  have e : (cfg1.win 1).index t = ![t.val, 0, lbN t.val + 1] := by rw [← coord1 t]; exact map1_1 (grid1.coords t)
  refine (Pipeline.Window.rect_emb_val (cfg1.win 1) t (ix3 r b w) a).trans ?_
  rw [e]
  match a with
  | 0 => show t.val * 16 + r.val = 16 * t.val + r.val; omega
  | 1 => show 0 * 64 + b.val = b.val; omega
  | 2 => show (lbN t.val + 1) * 128 + w.val = lbN t.val * 128 + (w.val + 128); omega

theorem emb1_2 (t : Fin cfg1.N) (r : Fin 16) (b : Fin 64) (q : Fin 514) (h0 : 16 * t.val + r.val < 544) :
    ((cfg1.win 2).rect t).emb (ix3 r b q) = (ix3 ⟨16 * t.val + r.val, h0⟩ b q : S544x64x514.Idx) := by
  refine funext fun a => Fin.ext ?_
  have e : (cfg1.win 2).index t = ![t.val, 0, 0] := by rw [← coord1 t]; exact map1_2 (grid1.coords t)
  refine (Pipeline.Window.rect_emb_val (cfg1.win 2) t (ix3 r b q) a).trans ?_
  rw [e]
  match a with
  | 0 => show t.val * 16 + r.val = 16 * t.val + r.val; omega
  | 1 => show 0 * 64 + b.val = b.val; omega
  | 2 => show 0 * 514 + q.val = q.val; omega

theorem emb0_0 (t : Fin cfg0.N) (r : Fin 4) (i : Fin 512) (k : Fin 8) (h0 : 4 * t.val + r.val < 64) :
    ((cfg0.win 0).rect t).emb (ix3 r i k) = (ix3 ⟨4 * t.val + r.val, h0⟩ i k : S64x512x8.Idx) := by
  refine funext fun a => Fin.ext ?_
  have e : (cfg0.win 0).index t = ![t.val, 0, 0] := by rw [← coord0 t]; exact (map0 (grid0.coords t)).1
  refine (Pipeline.Window.rect_emb_val (cfg0.win 0) t (ix3 r i k) a).trans ?_
  rw [e]
  match a with
  | 0 => show t.val * 4 + r.val = 4 * t.val + r.val; omega
  | 1 => show 0 * 512 + i.val = i.val; omega
  | 2 => show 0 * 8 + k.val = k.val; omega

theorem emb0_1 (t : Fin cfg0.N) (r : Fin 4) (i : Fin 512) (k : Fin 8) (h0 : 4 * t.val + r.val < 64) :
    ((cfg0.win 1).rect t).emb (ix3 r i k) = (ix3 ⟨4 * t.val + r.val, h0⟩ i k : S64x512x8.Idx) := by
  refine funext fun a => Fin.ext ?_
  have e : (cfg0.win 1).index t = ![t.val, 0, 0] := by rw [← coord0 t]; exact (map0 (grid0.coords t)).2.1
  refine (Pipeline.Window.rect_emb_val (cfg0.win 1) t (ix3 r i k) a).trans ?_
  rw [e]
  match a with
  | 0 => show t.val * 4 + r.val = 4 * t.val + r.val; omega
  | 1 => show 0 * 512 + i.val = i.val; omega
  | 2 => show 0 * 8 + k.val = k.val; omega

theorem emb0_2 (t : Fin cfg0.N) (r : Fin 4) (i : Fin 512) (j : Fin 512) (h0 : 4 * t.val + r.val < 64) :
    ((cfg0.win 2).rect t).emb (ix3 r i j) = (ix3 ⟨4 * t.val + r.val, h0⟩ i j : S64x512x512.Idx) := by
  refine funext fun a => Fin.ext ?_
  have e : (cfg0.win 2).index t = ![t.val, 0, 0] := by rw [← coord0 t]; exact (map0 (grid0.coords t)).2.2
  refine (Pipeline.Window.rect_emb_val (cfg0.win 2) t (ix3 r i j) a).trans ?_
  rw [e]
  match a with
  | 0 => show t.val * 4 + r.val = 4 * t.val + r.val; omega
  | 1 => show 0 * 512 + i.val = i.val; omega
  | 2 => show 0 * 512 + j.val = j.val; omega

variable (V : Cont (F := Ideal)) (c : Dev nD)

/-! The squared distances. -/

variable (X Y : Fin 64 → Fin 512 → Fin 8 → ℝ)

/-- The squared distances as an array. -/
def sqArr : FVec Ideal S64x512x512 .bf16 := fun y => ((sqR (X (y 0) (y 1)) (Y (y 0) (y 2)) : ℝ) : EReal)

theorem batchAt_apply (x : Vec Ideal S4x512x8 .f32) (r : Fin 4) (i : Fin 512) (k : Fin 8) :
    batchAt x r.val (ix3 0 i k) = x (ix3 r i k) := by
  unfold batchAt
  refine congrArg x (funext fun a => ?_)
  match a with
  | 0 => exact Fin.ext (Nat.mod_eq_of_lt r.isLt)
  | 1 => rfl
  | 2 => rfl

theorem sqArr_eq (hX : ∀ b i k, (V c main_arg0 : FVec Ideal S64x512x8 .f32) (ix3 b i k) = ((X b i k : ℝ) : EReal))
    (hY : ∀ b i k, (V c main_arg1 : FVec Ideal S64x512x8 .f32) (ix3 b i k) = ((Y b i k : ℝ) : EReal)) :
    (dat0 V c).arrAt 2 cfg0.N = sqArr X Y := by
  refine Dat.arrAt_eq_of_cover (dat0 V c) 2 (sqArr X Y) (fun t _ => ?_) fun i => ?_
  · have ht : t.val < 16 := lt_of_lt_of_eq t.isLt N_0
    funext y
    rw [View.read_apply]
    obtain ⟨r, i, j, rfl⟩ : ∃ (r : Fin 4) (i j : Fin 512), y = ix3 r i j := ⟨y 0, y 1, y 2, eq_ix3 y⟩
    have hr := r.isLt
    show sqOut (sqIn0 V c t) (sqIn1 V c t) (ix3 r i j) = sqArr X Y (((cfg0.win 2).rect t).emb (ix3 r i j))
    rw [emb0_2 t r i j (by omega)]
    have e : sqOut (sqIn0 V c t) (sqIn1 V c t) (ix3 r i j) = sqBlock (batchAt (sqIn0 V c t) r.val) (batchAt (sqIn1 V c t) r.val) (ix2 i j) := by
      unfold sqOut
      refine congrArg _ (funext fun a => ?_)
      match a with
      | 0 => rfl
      | 1 => rfl
    rw [e]
    refine sqBlock_apply _ _ (X ⟨4 * t.val + r.val, by omega⟩) (Y ⟨4 * t.val + r.val, by omega⟩) (fun i k => ?_) (fun i k => ?_) i j
    · rw [batchAt_apply, ← hX, ← emb0_0 t r i k (by omega)]; rfl
    · rw [batchAt_apply, ← hY, ← emb0_1 t r i k (by omega)]; rfl
  · have h0 : (i 0).val < 64 := (i 0).isLt
    have ht : (i 0).val / 4 < cfg0.N := lt_of_lt_of_eq (b := 16) (by omega) N_0.symm
    refine ⟨⟨(i 0).val / 4, ht⟩, flush0_2 _, ?_⟩
    have e := emb0_2 ⟨(i 0).val / 4, ht⟩ ⟨(i 0).val % 4, Nat.mod_lt _ (by decide)⟩ (i 1) (i 2) (show 4 * ((i 0).val / 4) + (i 0).val % 4 < 64 by omega)
    have e' : i = ((cfg0.win 2).blk ⟨(i 0).val / 4, ht⟩).view.emb (ix3 ⟨(i 0).val % 4, Nat.mod_lt _ (by decide)⟩ (i 1) (i 2)) := by
      refine Eq.trans ?_ e.symm
      refine funext fun a => Fin.ext ?_
      match a with
      | 0 => show (i 0).val = 4 * ((i 0).val / 4) + (i 0).val % 4; omega
      | 1 => rfl
      | 2 => rfl
    exact Eq.mpr (congrArg (fun z => z ∈ ((cfg0.win 2).blk ⟨(i 0).val / 4, ht⟩).view.set) e') (View.emb_mem_set _ _)

/-! The table. -/

variable (D : Fin 64 → ℕ → ℕ → EReal)

/-- The padded distances as an array. -/
def padArr : FVec Ideal S544x64x512 .bf16 := fun y => padD (D (y 1)) (y 0).val (y 2).val
/-- The table as an array. -/
def tabArr : FVec Ideal S544x64x514 .f32 := fun y => T (D (y 1)) (y 0).val (y 2).val

variable {D}

theorem blocks_in (hA : V c main_v2 = padArr D) (t : Fin cfg1.N) : Blocks D t.val (dpIn0 V c t) (dpIn1 V c t) := by
  have ht : t.val < 34 := lt_of_lt_of_eq t.isLt N_1
  have hl := lbN_le t.val
  constructor
  · intro r b w
    have hr := r.isLt
    have hw := w.isLt
    show V c main_v2 (((cfg1.win 0).rect t).emb (ix3 r b w)) = _
    rw [emb1_0 t r b w (by omega) (by omega), hA]
    rfl
  · intro r b w
    have hr := r.isLt
    have hw := w.isLt
    show V c main_v2 (((cfg1.win 1).rect t).emb (ix3 r b w)) = _
    rw [emb1_1 t r b w (by omega) (by omega), hA]
    rfl

theorem scr_kept (hD : ∀ b i j, i < 512 → j < 512 → D b i j ≠ ⊥) (hA : V c main_v2 = padArr D) :
    ∀ n, n ≤ 33 → Kept D n (startRow n (scr V c n))
  | 0, _ => fun b w h => by
    unfold startRow
    rw [if_pos rfl]
    exact infF_eq
  | n + 1, hn => by
    have ht : n < cfg1.N := lt_of_lt_of_eq (b := 34) (by omega) N_1.symm
    unfold startRow
    rw [if_neg (Nat.succ_ne_zero n), scr_succ V c ⟨n, ht⟩]
    exact chunk_kept (by omega) hD (blocks_in V c hA ⟨n, ht⟩) (scr_kept hD hA n (by omega))

theorem tabArr_eq (hD : ∀ b i j, i < 512 → j < 512 → D b i j ≠ ⊥) (hA : V c main_v2 = padArr D) :
    (dat1 V c).arrAt 2 cfg1.N = tabArr D := by
  refine Dat.arrAt_eq_of_cover (dat1 V c) 2 (tabArr D) (fun t _ => ?_) fun i => ?_
  · have ht : t.val < 34 := lt_of_lt_of_eq t.isLt N_1
    funext y
    rw [View.read_apply]
    obtain ⟨r, b, q, rfl⟩ : ∃ (r : Fin 16) (b : Fin 64) (q : Fin 514), y = ix3 r b q := ⟨y 0, y 1, y 2, eq_ix3 y⟩
    have hr := r.isLt
    show dpOut V c t (ix3 r b q) = tabArr D (((cfg1.win 2).rect t).emb (ix3 r b q))
    rw [emb1_2 t r b q (by omega)]
    exact chunkOut_apply (by omega) hD (blocks_in V c hA t) (scr_kept V c hD hA t.val (by omega)) r b q
  · have h0 : (i 0).val < 544 := (i 0).isLt
    have ht : (i 0).val / 16 < cfg1.N := lt_of_lt_of_eq (b := 34) (by omega) N_1.symm
    refine ⟨⟨(i 0).val / 16, ht⟩, flush1_2 _, ?_⟩
    have e := emb1_2 ⟨(i 0).val / 16, ht⟩ ⟨(i 0).val % 16, Nat.mod_lt _ (by decide)⟩ (i 1) (i 2) (show 16 * ((i 0).val / 16) + (i 0).val % 16 < 544 by omega)
    have e' : i = ((cfg1.win 2).blk ⟨(i 0).val / 16, ht⟩).view.emb (ix3 ⟨(i 0).val % 16, Nat.mod_lt _ (by decide)⟩ (i 1) (i 2)) := by
      refine Eq.trans ?_ e.symm
      refine funext fun a => Fin.ext ?_
      match a with
      | 0 => show (i 0).val = 16 * ((i 0).val / 16) + (i 0).val % 16; omega
      | 1 => rfl
      | 2 => rfl
    exact Eq.mpr (congrArg (fun z => z ∈ ((cfg1.win 2).blk ⟨(i 0).val / 16, ht⟩).view.set) e') (View.emb_mem_set _ _)

end Cert.KernelIdeal.Hand

end
-- ==== Proof.KernelVal.lean ====
/-
  The kernel's results over the extended reals: on finite inputs the table of the squared distances, and its last cell.
-/
module

public import proofs.«01_k».proof.Proof.ArrMath
public import proofs.«01_k».proof.Proof.KernelRun
public import Idealize.ShloMosaic.Lib.StableHlo.RunRead

@[expose] public section

noncomputable section

namespace Cert.KernelIdeal.Hand

open Cert.KernelIdeal Cert.KernelIdeal.Gen Cert.Table
open Idealize.ShloMosaic Idealize.ShloMosaic.TcCoe

/-- The distances by row and column numbers. -/
def distN (X Y : Fin 64 → Fin 512 → Fin 8 → ℝ) (b : Fin 64) (i j : ℕ) : EReal :=
  if h : i < 512 ∧ j < 512 then ((sqR (X b ⟨i, h.1⟩) (Y b ⟨j, h.2⟩) : ℝ) : EReal) else 0

theorem distN_ne_bot (X Y : Fin 64 → Fin 512 → Fin 8 → ℝ) (b : Fin 64) (i j : ℕ) (hi : i < 512) (hj : j < 512) : distN X Y b i j ≠ ⊥ := by
  unfold distN
  rw [dif_pos ⟨hi, hj⟩]
  exact EReal.coe_ne_bot _

variable (m : (ℓ : Loc nD τ sig) → Buf (Elt Ideal) ℓ) (c : Dev nD)

/-- The padded distances, from the first region's array. -/
theorem v2_eq (o : Outs (F := Ideal)) (A : FVec Ideal S64x512x512 .bf16) (hA : o 1 main_v0 c = A) :
    (V3 m o c main_v2 : FVec Ideal S544x64x512 .bf16)
      = pad S544x64x512 ![1, 0, 0] ![31, 0, 0] ![0, 0, 0]
        (transpose S512x64x512 [1, 0, 2] A transposes_S64x512x512_S512x64x512_1_0_2)
        (sitofp .bf16 (constantI S_ 32 0#32) : FVec Ideal S_ .bf16) pads_S512x64x512_S544x64x512_1310_000_000 := by
  have e1 : V1 m o c main_v0 = A := by unfold V1; rw [Function.update_self, hA]
  have e : (V3 m o c main_v2 : FVec Ideal S544x64x512 .bf16) = pad S544x64x512 ![1, 0, 0] ![31, 0, 0] ![0, 0, 0]
        (transpose S512x64x512 [1, 0, 2] (V1 m o c main_v0 : FVec Ideal S64x512x512 .bf16) transposes_S64x512x512_S512x64x512_1_0_2)
        (sitofp .bf16 (constantI S_ 32 0#32) : FVec Ideal S_ .bf16) pads_S512x64x512_S544x64x512_1310_000_000 := by
    unfold V3 V2
    after_reads_simp
    rfl
  rw [e, e1]

/-- The padded distances. -/
theorem v2_pad (X Y : Fin 64 → Fin 512 → Fin 8 → ℝ) (o : Outs (F := Ideal)) (hA : o 1 main_v0 c = sqArr X Y) :
    V3 m o c main_v2 = padArr (distN X Y) := by
  refine (v2_eq m c o (sqArr X Y) hA).trans (funext fun y => ?_)
  pointwise
  by_cases h : 1 ≤ (y 0).val ∧ (y 0).val - 1 < 512
  · refine (dif_pos h).trans ?_
    have h2 : (y 2).val < 512 := (y 2).isLt
    show _ = padD (distN X Y (y 1)) (y 0).val (y 2).val
    unfold padD distN
    rw [if_pos (by omega), dif_pos ⟨h.2, h2⟩]
    rfl
  · refine (dif_neg h).trans ?_
    show _ = padD (distN X Y (y 1)) (y 0).val (y 2).val
    unfold padD
    rw [if_neg (by omega)]
    show (((BitVec.toInt 0#32 : ℤ) : ℝ) : EReal) = 0
    simp

/-- The two results, from the second region's array. -/
theorem v5_eq (o : Outs (F := Ideal)) (A : FVec Ideal S544x64x514 .f32) (hA : o 4 main_v3 c = A) (b : Fin 64) (p q : Fin 514) :
    (V5 m o c main_v5 : FVec Ideal S64x514x514 .f32) (ix3 b p q) = A (ix3 ⟨p.val, by omega⟩ b q) := by
  have e1 : V4 m o c main_v3 = A := by unfold V4; rw [Function.update_self, hA]
  have e : (V5 m o c main_v5 : FVec Ideal S64x514x514 .f32) = transpose S64x514x514 [1, 0, 2]
      (extractStridedSlice S514x64x514 ![0, 0, 0] (V4 m o c main_v3 : FVec Ideal S544x64x514 .f32) slices_S544x64x514_S514x64x514_0_0_0)
      transposes_S514x64x514_S64x514x514_1_0_2 := by
    unfold V5
    after_reads_simp
  rw [e, e1]
  pointwise

theorem v7_eq (o : Outs (F := Ideal)) (b : Fin 64) :
    (V5 m o c main_v7 : FVec Ideal S64 .f32) (ix1 b) = (V5 m o c main_v5 : FVec Ideal S64x514x514 .f32) (ix3 b 512 512) := by
  have e : (V5 m o c main_v7 : FVec Ideal S64 .f32) = shapeCast S64 (extractStridedSlice S64x1x1 ![0, 512, 512]
      (V5 m o c main_v5 : FVec Ideal S64x514x514 .f32) slices_S64x514x514_S64x1x1_0_512_512) shapeCasts_S64x1x1_S64 := by
    unfold V5
    after_reads_simp
    rfl
  rw [e]
  pointwise

/-- THE KERNEL'S RESULTS on finite inputs: the table of the squared distances, -/
theorem kernel_v5 (X Y : Fin 64 → Fin 512 → Fin 8 → ℝ)
    (hX : ∀ b i k, (m ((c : Thread nD τ).loc main_arg0) : FVec Ideal S64x512x8 .f32) (ix3 b i k) = ((X b i k : ℝ) : EReal))
    (hY : ∀ b i k, (m ((c : Thread nD τ).loc main_arg1) : FVec Ideal S64x512x8 .f32) (ix3 b i k) = ((Y b i k : ℝ) : EReal))
    (b : Fin 64) (p q : Fin 514) :
    (V5 m (outs m) c main_v5 : FVec Ideal S64x514x514 .f32) (ix3 b p q) = T (distN X Y b) p.val q.val := by
  have h0 : res0 m c = sqArr X Y := sqArr_eq (fun c b => V0 m c b) c X Y hX hY
  have h1 : res1 m c = tabArr (distN X Y) :=
    tabArr_eq (VE m) c (distN_ne_bot X Y) (v2_pad m c X Y (outs0 m) ((outs0_1 m c).trans h0))
  rw [v5_eq m c (outs m) (tabArr (distN X Y)) ((outs_4 m c).trans h1)]
  rfl

/-- and its last cell. -/
theorem kernel_v7 (X Y : Fin 64 → Fin 512 → Fin 8 → ℝ)
    (hX : ∀ b i k, (m ((c : Thread nD τ).loc main_arg0) : FVec Ideal S64x512x8 .f32) (ix3 b i k) = ((X b i k : ℝ) : EReal))
    (hY : ∀ b i k, (m ((c : Thread nD τ).loc main_arg1) : FVec Ideal S64x512x8 .f32) (ix3 b i k) = ((Y b i k : ℝ) : EReal)) (b : Fin 64) :
    (V5 m (outs m) c main_v7 : FVec Ideal S64 .f32) (ix1 b) = T (distN X Y b) 512 512 := by
  rw [v7_eq, kernel_v5 m c X Y hX hY]
  rfl

end Cert.KernelIdeal.Hand

end
-- ==== Proof.RefVal.lean ====
/-
  One trip of the reference's loop, read off its operations: the table after the trip is `cellStep` of the table, the
  squared distances and the number k of the trip, with the slices' starts the numbers k/512 and k mod 512 (one more for
  the neighbours and for the cell written).
-/
module

public import proofs.«01_k».proof.Proof.RefRun
public import proofs.«01_k».proof.Proof.SqMath
public import proofs.«01_k».proof.Proof.Table
public import Idealize.ShloMosaic.PureOps.Ideal
public import Idealize.ShloMosaic.Lib.IdealHost
public import Idealize.ShloMosaic.Lib.Pointwise
public import Idealize.ShloMosaic.Lib.Routing.Words

@[expose] public section

noncomputable section

namespace Cert.ReferenceIdeal.Hand

open Cert.ReferenceIdeal Cert.ReferenceIdeal.Gen Cert.Table
open Idealize.ShloMosaic Idealize.ShloMosaic.TcCoe
open Idealize.ShloMosaic.StableHlo (after held launchContents)

/-- The three starts of a slice, as a function of the axis. -/
def starts (a b c : ℕ) : Fin 3 → Int := ![(a : Int), (b : Int), (c : Int)]

/-- One step of the loop on the table, the word k of the step and the starts of the slices given. -/
def cellStep (w : IVec S_ 32) (A : FVec Ideal S64x512x512 .f32) (R : FVec Ideal S64x514x514 .f32)
    (s s' s'' sA sR : Fin 3 → Int) : FVec Ideal S64x514x514 .f32 :=
  Host.dynamicUpdateSlice R
    (select (broadcastInDim S64x1x1 ![] bcast_S_S64x1x1
      (cmpf (F := Ideal) (φ := .f32) .ole (Host.absf (subf (mulf (sitofp .f32 (Host.divsi w (constantI S_ 32 512#32))) (constant S_ .f32 0x3B004020#32))
        (mulf (sitofp .f32 (Host.remsi w (constantI S_ 32 512#32))) (constant S_ .f32 0x3B004020#32))))
        (constant S_ .f32 0x3DCCCCCD#32)))
      (addf (Host.dynamicSlice S64x1x1 A sA sliceFits_S64x512x512_S64x1x1)
        (minimumf (minimumf (Host.dynamicSlice S64x1x1 R s sliceFits_S64x514x514_S64x1x1)
          (Host.dynamicSlice S64x1x1 R s' sliceFits_S64x514x514_S64x1x1))
          (Host.dynamicSlice S64x1x1 R s'' sliceFits_S64x514x514_S64x1x1)))
      (broadcastInDim S64x1x1 ![] bcast_S_S64x1x1 (constant S_ .f32 0x7F800000#32)))
    sR updateFits_S64x514x514_S64x1x1

/-- The row and the column of the cell that trip `k` fills, as the loop computes them. -/
theorem div_word (k : ℕ) (hk : k < 262144) (z : S_.Idx) :
    (Host.divsi (fun _ => (BitVec.ofNat 32 k : BitVec 32)) (constantI S_ 32 512#32) : IVec S_ 32) z = BitVec.ofNat 32 (k / 512) :=
  Routing.divsi_word .host (by omega) (by omega) (by omega)
theorem rem_word (k : ℕ) (hk : k < 262144) (z : S_.Idx) :
    (Host.remsi (fun _ => (BitVec.ofNat 32 k : BitVec 32)) (constantI S_ 32 512#32) : IVec S_ 32) z = BitVec.ofNat 32 (k % 512) :=
  Routing.remsi_word .host (by omega) (by omega) (by omega)
theorem word_int (n : ℕ) (hn : n < 1000) : (BitVec.ofNat 32 n).toInt = (n : Int) :=
  WordCmp.toInt_ofNat_of_lt (by omega)

theorem starts_ext {v : Fin 3 → Int} {a b c : ℕ} (h0 : v 0 = (a : Int)) (h1 : v 1 = (b : Int)) (h2 : v 2 = (c : Int)) :
    v = starts a b c := by
  funext x
  match x with
  | 0 => exact h0
  | 1 => exact h1
  | 2 => exact h2

/-- The word `w` reads as the natural `n` at the first index. -/
def Reads (w : IVec S_ 32) (n : ℕ) : Prop := ∀ z, w z = BitVec.ofNat 32 n

theorem Reads.int {w : IVec S_ 32} {n : ℕ} (h : Reads w n) (hn : n < 1000) (z : S_.Idx) : (w z).toInt = (n : Int) := by
  rw [h z]; exact word_int n hn

theorem Reads.succ {w : IVec S_ 32} {n : ℕ} (h : Reads w n) : Reads (addi w (constantI S_ 32 1#32)) (n + 1) := by
  intro z
  show w z + 1#32 = _
  rw [h z]
  exact (BitVec.ofNat_add n 1).symm

theorem reads_zero : Reads (constantI S_ 32 0#32) 0 := fun _ => rfl

section Words
variable (X : Valuation τ sig (Elt Ideal)) (k : ℕ) (hk : k < 262144)
  (h2 : X main_v16_2 = fun _ => (BitVec.ofNat 32 k : BitVec 32))
include hk h2

theorem reads_div : Reads (Host.divsi (X main_v16_2 : IVec S_ 32) (constantI S_ 32 512#32)) (k / 512) := by
  rw [h2]; exact div_word k hk
theorem reads_rem : Reads (Host.remsi (X main_v16_2 : IVec S_ 32) (constantI S_ 32 512#32)) (k % 512) := by
  rw [h2]; exact rem_word k hk

/-! What the slices' starts read, each at the operation that uses it. -/

theorem at7_c_14 : Reads (StableHlo.upto bodyOps X 7 main_while0b_c_14 : IVec S_ 32) 0 := by
  after_reads_simp; exact reads_zero
theorem at7_v20 : Reads (StableHlo.upto bodyOps X 7 main_while0b_v20 : IVec S_ 32) (k / 512) := by
  after_reads_simp; exact reads_div X k hk h2
theorem at7_v21 : Reads (StableHlo.upto bodyOps X 7 main_while0b_v21 : IVec S_ 32) (k % 512) := by
  after_reads_simp; exact reads_rem X k hk h2
theorem at11_c_16 : Reads (StableHlo.upto bodyOps X 11 main_while0b_c_16 : IVec S_ 32) 0 := by
  after_reads_simp; exact reads_zero
theorem at11_v20 : Reads (StableHlo.upto bodyOps X 11 main_while0b_v20 : IVec S_ 32) (k / 512) := by
  after_reads_simp; exact reads_div X k hk h2
theorem at11_v23 : Reads (StableHlo.upto bodyOps X 11 main_while0b_v23 : IVec S_ 32) (k % 512 + 1) := by
  after_reads_simp; exact (reads_rem X k hk h2).succ
theorem at16_c_18 : Reads (StableHlo.upto bodyOps X 16 main_while0b_c_18 : IVec S_ 32) 0 := by
  after_reads_simp; exact reads_zero
theorem at16_v26 : Reads (StableHlo.upto bodyOps X 16 main_while0b_v26 : IVec S_ 32) (k / 512 + 1) := by
  after_reads_simp; exact (reads_div X k hk h2).succ
theorem at16_v21 : Reads (StableHlo.upto bodyOps X 16 main_while0b_v21 : IVec S_ 32) (k % 512) := by
  after_reads_simp; exact reads_rem X k hk h2
theorem at29_c_22 : Reads (StableHlo.upto bodyOps X 29 main_while0b_c_22 : IVec S_ 32) 0 := by
  after_reads_simp; exact reads_zero
theorem at29_v20 : Reads (StableHlo.upto bodyOps X 29 main_while0b_v20 : IVec S_ 32) (k / 512) := by
  after_reads_simp; exact reads_div X k hk h2
theorem at29_v21 : Reads (StableHlo.upto bodyOps X 29 main_while0b_v21 : IVec S_ 32) (k % 512) := by
  after_reads_simp; exact reads_rem X k hk h2
theorem at39_c_26 : Reads (StableHlo.upto bodyOps X 39 main_while0b_c_26 : IVec S_ 32) 0 := by
  after_reads_simp; exact reads_zero
theorem at39_v40 : Reads (StableHlo.upto bodyOps X 39 main_while0b_v40 : IVec S_ 32) (k / 512 + 1) := by
  after_reads_simp; exact (reads_div X k hk h2).succ
theorem at39_v41 : Reads (StableHlo.upto bodyOps X 39 main_while0b_v41 : IVec S_ 32) (k % 512 + 1) := by
  after_reads_simp; exact (reads_rem X k hk h2).succ
end Words

set_option maxHeartbeats 2000000 in
/-- The table after one trip. -/
theorem body_tab (X : Valuation τ sig (Elt Ideal)) (k : ℕ) (hk : k < 262144) (A : FVec Ideal S64x512x512 .f32) (R : FVec Ideal S64x514x514 .f32)
    (h2 : X main_v16_2 = fun _ => (BitVec.ofNat 32 k : BitVec 32)) (h0 : X main_v16_0 = A) (h3 : X main_v16_3 = R) :
    (after bodyOps X main_v16_3 : FVec Ideal S64x514x514 .f32)
      = cellStep (fun _ => BitVec.ofNat 32 k) A R (starts 0 (k / 512) (k % 512)) (starts 0 (k / 512) (k % 512 + 1))
          (starts 0 (k / 512 + 1) (k % 512)) (starts 0 (k / 512) (k % 512)) (starts 0 (k / 512 + 1) (k % 512 + 1)) := by
  have hd : k / 512 < 512 := by omega
  have hr : k % 512 < 512 := by omega
  after_reads_simp
  rw [h2, h0, h3]
  refine (show _ = cellStep (fun _ => BitVec.ofNat 32 k) A R _ _ _ _ _ from rfl).trans ?_
  congr 1
  · exact starts_ext ((at7_c_14 X k hk h2).int (by omega) _) ((at7_v20 X k hk h2).int (by omega) _)
      ((at7_v21 X k hk h2).int (by omega) _)
  · exact starts_ext ((at11_c_16 X k hk h2).int (by omega) _) ((at11_v20 X k hk h2).int (by omega) _)
      ((at11_v23 X k hk h2).int (by omega) _)
  · exact starts_ext ((at16_c_18 X k hk h2).int (by omega) _) ((at16_v26 X k hk h2).int (by omega) _)
      ((at16_v21 X k hk h2).int (by omega) _)
  · exact starts_ext ((at29_c_22 X k hk h2).int (by omega) _) ((at29_v20 X k hk h2).int (by omega) _)
      ((at29_v21 X k hk h2).int (by omega) _)
  · exact starts_ext ((at39_c_26 X k hk h2).int (by omega) _) ((at39_v40 X k hk h2).int (by omega) _)
      ((at39_v41 X k hk h2).int (by omega) _)

end Cert.ReferenceIdeal.Hand

end
-- ==== Proof.RefCell.lean ====
/-
  One step of the reference's loop, read cell by cell: the step k writes the cell (k/512 + 1, k mod 512 + 1) of every
  problem's table and leaves the rest; the test of the band, over the reals, is |i − j| ≤ 51.
-/
module

public import proofs.«01_k».proof.Proof.RefVal
public import Mathlib.Tactic.Ring
public import Mathlib.Tactic.Linarith
public import Mathlib.Tactic.NormNum

@[expose] public section

noncomputable section

namespace Cert.ReferenceIdeal.Hand

open Cert.ReferenceIdeal Cert.ReferenceIdeal.Gen Cert.Table
open Idealize.ShloMosaic Idealize.ShloMosaic.TcCoe

theorem ofBits_step : Ideal.ofBits .f32 0x3B004020#32 = ((8405024 / 4294967296 : ℝ) : EReal) := by
  simp [Ideal.ofBits, Ideal.ieee, -EReal.coe_mul, -EReal.coe_neg]; norm_num

theorem ofBits_width : Ideal.ofBits .f32 0x3DCCCCCD#32 = ((13421773 / 134217728 : ℝ) : EReal) := by
  simp [Ideal.ofBits, Ideal.ieee, -EReal.coe_mul, -EReal.coe_neg]; norm_num

/-- The band's test over the reals. -/
theorem band_real (i j : ℕ) (hi : i < 512) (hj : j < 512) :
    max ((i : ℝ) * (8405024 / 4294967296) - (j : ℝ) * (8405024 / 4294967296))
        (-((i : ℝ) * (8405024 / 4294967296) - (j : ℝ) * (8405024 / 4294967296))) ≤ 13421773 / 134217728 ↔ Band i j := by
  rw [max_le_iff]
  constructor
  · rintro ⟨h1, h2⟩
    refine ⟨⟨hi, hj⟩, ?_, ?_⟩
    · by_contra h
      have : (j : ℝ) + 52 ≤ i := by exact_mod_cast (by omega : j + 52 ≤ i)
      linarith
    · by_contra h
      have : (i : ℝ) + 52 ≤ j := by exact_mod_cast (by omega : i + 52 ≤ j)
      linarith
  · rintro ⟨-, h1, h2⟩
    have h1' : (i : ℝ) ≤ j + 51 := by exact_mod_cast h1
    have h2' : (j : ℝ) ≤ i + 51 := by exact_mod_cast h2
    constructor <;> linarith

/-- The band's test as the reference makes it. -/
theorem band_test (i j : ℕ) (hi : i < 512) (hj : j < 512) :
    max ((((i : ℤ) : ℝ) : EReal) * ((8405024 / 4294967296 : ℝ) : EReal) - (((j : ℤ) : ℝ) : EReal) * ((8405024 / 4294967296 : ℝ) : EReal))
        (-((((i : ℤ) : ℝ) : EReal) * ((8405024 / 4294967296 : ℝ) : EReal) - (((j : ℤ) : ℝ) : EReal) * ((8405024 / 4294967296 : ℝ) : EReal)))
      ≤ ((13421773 / 134217728 : ℝ) : EReal) ↔ Band i j := by
  rw [← EReal.coe_mul, ← EReal.coe_mul, ← EReal.coe_sub, ← EReal.coe_neg, ← band_real i j hi hj, max_le_iff, max_le_iff,
    EReal.coe_le_coe_iff, EReal.coe_le_coe_iff]
  simp only [Int.cast_natCast]

/-- Starts within the table are not clamped. -/
theorem clamp_table {n i j : ℕ} (h : S64x1x1.rank = (⟨3, ![64, n, n]⟩ : Shape).rank) (hi : i < n) (hj : j < n) :
    Host.clampedStart (⟨3, ![64, n, n]⟩ : Shape) S64x1x1 h (starts 0 i j) 0 = 0
      ∧ Host.clampedStart (⟨3, ![64, n, n]⟩ : Shape) S64x1x1 h (starts 0 i j) 1 = i
      ∧ Host.clampedStart (⟨3, ![64, n, n]⟩ : Shape) S64x1x1 h (starts 0 i j) 2 = j :=
  ⟨Host.clampedStart_of_le h _ _ _ rfl (show 0 + 64 ≤ 64 from by omega),
    Host.clampedStart_of_le h _ _ _ rfl (show i + 1 ≤ n from hi), Host.clampedStart_of_le h _ _ _ rfl (show j + 1 ≤ n from hj)⟩

theorem ix3_of_val {a b c : ℕ} {u u' : Fin a} {v v' : Fin b} {w w' : Fin c} (h1 : u.val = u'.val) (h2 : v.val = v'.val)
    (h3 : w.val = w'.val) : ix3 u v w = ix3 u' v' w' := by
  rw [Fin.ext h1, Fin.ext h2, Fin.ext h3]

/-- One step, at one cell. -/
theorem cell_apply (k : ℕ) (hk : k < 262144) (A : FVec Ideal S64x512x512 .f32) (R : FVec Ideal S64x514x514 .f32)
    (b : Fin 64) (p q : Fin 514) :
    cellStep (fun _ => BitVec.ofNat 32 k) A R (starts 0 (k / 512) (k % 512)) (starts 0 (k / 512) (k % 512 + 1))
          (starts 0 (k / 512 + 1) (k % 512)) (starts 0 (k / 512) (k % 512)) (starts 0 (k / 512 + 1) (k % 512 + 1)) (ix3 b p q)
      = if p.val = k / 512 + 1 ∧ q.val = k % 512 + 1 then
          if Band (k / 512) (k % 512) then
            A (ix3 b ⟨k / 512, by omega⟩ ⟨k % 512, by omega⟩)
              + min (min (R (ix3 b ⟨k / 512, by omega⟩ ⟨k % 512, by omega⟩)) (R (ix3 b ⟨k / 512, by omega⟩ ⟨k % 512 + 1, by omega⟩)))
                  (R (ix3 b ⟨k / 512 + 1, by omega⟩ ⟨k % 512, by omega⟩))
          else ⊤
        else R (ix3 b p q) := by
  have hd : k / 512 < 512 := by omega
  have hr : k % 512 < 512 := by omega
  unfold cellStep
  pointwise [div_word k hk, rem_word k hk, ofBits_step, ofBits_width]
  have c1 := clamp_table (n := 514) (i := k / 512 + 1) (j := k % 512 + 1) updateFits_S64x514x514_S64x1x1.1 (by omega) (by omega)
  have c2 := clamp_table (n := 514) (i := k / 512) (j := k % 512) updateFits_S64x514x514_S64x1x1.1 (by omega) (by omega)
  have c3 := clamp_table (n := 514) (i := k / 512) (j := k % 512 + 1) updateFits_S64x514x514_S64x1x1.1 (by omega) (by omega)
  have c4 := clamp_table (n := 514) (i := k / 512 + 1) (j := k % 512) updateFits_S64x514x514_S64x1x1.1 (by omega) (by omega)
  have c5 := clamp_table (n := 512) (i := k / 512) (j := k % 512) sliceFits_S64x512x512_S64x1x1.1 (by omega) (by omega)
  by_cases h : p.val = k / 512 + 1 ∧ q.val = k % 512 + 1
  · rw [if_pos h]
    refine (dif_pos ⟨by rw [c1.1]; exact Nat.zero_le _, ⟨by rw [c1.2.1, h.1], by rw [c1.2.1, h.1]; omega⟩,
      by rw [c1.2.2, h.2], by rw [c1.2.2, h.2]; omega⟩).trans ?_
    have ht : FloatOps.absf (F := Ideal) (φ := .f32)
        (FloatOps.sitofp FTy.f32 (BitVec.ofNat 32 (k / 512)) * ((8405024 / 4294967296 : ℝ) : EReal)
          - FloatOps.sitofp FTy.f32 (BitVec.ofNat 32 (k % 512)) * ((8405024 / 4294967296 : ℝ) : EReal))
        ≤ ((13421773 / 134217728 : ℝ) : EReal) ↔ Band (k / 512) (k % 512) := by
      refine Iff.trans (Eq.to_iff ?_) (band_test (k / 512) (k % 512) hd hr)
      rw [← word_int (k / 512) (by omega), ← word_int (k % 512) (by omega)]
      rfl
    by_cases hB : Band (k / 512) (k % 512)
    · rw [if_pos hB]
      refine (if_pos (ht.2 hB)).trans ?_
      refine congrArg₂ (· + ·) (congrArg A (ix3_of_val ?_ ?_ ?_)) (congrArg₂ min (congrArg₂ min (congrArg R (ix3_of_val ?_ ?_ ?_))
        (congrArg R (ix3_of_val ?_ ?_ ?_))) (congrArg R (ix3_of_val ?_ ?_ ?_)))
      · show _ + (b.val - _) = b.val; rw [c5.1, c1.1]; omega
      · show _ + (p.val - _) = _; rw [c5.2.1, c1.2.1, h.1]; simp
      · show _ + (q.val - _) = _; rw [c5.2.2, c1.2.2, h.2]; simp
      · show _ + (b.val - _) = b.val; rw [c2.1, c1.1]; omega
      · show _ + (p.val - _) = _; rw [c2.2.1, c1.2.1, h.1]; simp
      · show _ + (q.val - _) = _; rw [c2.2.2, c1.2.2, h.2]; simp
      · show _ + (b.val - _) = b.val; rw [c3.1, c1.1]; omega
      · show _ + (p.val - _) = _; rw [c3.2.1, c1.2.1, h.1]; simp
      · show _ + (q.val - _) = _; rw [c3.2.2, c1.2.2, h.2]; simp
      · show _ + (b.val - _) = b.val; rw [c4.1, c1.1]; omega
      · show _ + (p.val - _) = _; rw [c4.2.1, c1.2.1, h.1]; simp
      · show _ + (q.val - _) = _; rw [c4.2.2, c1.2.2, h.2]; simp
    · rw [if_neg hB]
      refine (if_neg fun hc => hB (ht.1 hc)).trans ?_
      simp [Ideal.ofBits, Ideal.ieee]
  · rw [if_neg h]
    refine dif_neg ?_
    rintro ⟨-, ⟨h1, h2⟩, h3, h4⟩
    rw [c1.2.1] at h1 h2
    rw [c1.2.2] at h3 h4
    omega

end Cert.ReferenceIdeal.Hand

end
-- ==== Proof.RefPre.lean ====
/-
  What the reference's loop starts with: on finite inputs the real squared distances, and the table with 0 in its first
  cell and the top element elsewhere.
-/
module

public import proofs.«01_k».proof.Proof.RefCell
public import Mathlib.Tactic.Ring

@[expose] public section

noncomputable section

namespace Cert.ReferenceIdeal.Hand

open Cert.ReferenceIdeal Cert.ReferenceIdeal.Gen Cert.Table
open Idealize.ShloMosaic Idealize.ShloMosaic.TcCoe
open Idealize.ShloMosaic.StableHlo (after held launchContents)

theorem ofBits_two : Ideal.ofBits .f32 0x40000000#32 = ((2 : ℝ) : EReal) := by
  simp [Ideal.ofBits, Ideal.ieee, -EReal.coe_mul, -EReal.coe_neg]; norm_num

/-- The squared distances as the reference writes them. -/
def refSq (x y : FVec Ideal S64x512x8 .f32) : FVec Ideal S64x512x512 .f32 :=
  subf (addf
      (broadcastInDim S64x512x512 ![0, 1, 2] bcast_S64x512x1_S64x512x512_0_1_2 (broadcastInDim S64x512x1 ![0, 1] bcast_S64x512_S64x512x1_0_1
        (Host.reduceAdd (mulf x x) (constant S_ .f32 0x00000000#32) reducesTo_S64x512x8_S64x512_d2 h_S_)))
      (broadcastInDim S64x512x512 ![0, 1, 2] bcast_S64x1x512_S64x512x512_0_1_2 (broadcastInDim S64x1x512 ![0, 2] bcast_S64x512_S64x1x512_0_2
        (Host.reduceAdd (mulf y y) (constant S_ .f32 0x00000000#32) reducesTo_S64x512x8_S64x512_d2 h_S_))))
    (mulf (broadcastInDim S64x512x512 ![] bcast_S_S64x512x512 (constant S_ .f32 0x40000000#32))
      (Host.dotGeneral dot_S64x512x8_S64x512x8_S64x512x512_2_2_1_1_0_0 none x y))

theorem pre_dst (X : Valuation τ sig (Elt Ideal)) :
    (after preOps X main_v16_0 : FVec Ideal S64x512x512 .f32) = refSq (X main_arg0) (X main_arg1) := by
  after_reads_simp
  rfl

/-- On real inputs they are the real squared distances. -/
theorem refSq_apply (x y : FVec Ideal S64x512x8 .f32) (xr yr : Fin 64 → Fin 512 → Fin 8 → ℝ)
    (hx : ∀ b i k, x (ix3 b i k) = ((xr b i k : ℝ) : EReal)) (hy : ∀ b i k, y (ix3 b i k) = ((yr b i k : ℝ) : EReal))
    (b : Fin 64) (i j : Fin 512) :
    refSq x y (ix3 b i j) = ((Cert.KernelIdeal.Hand.sqR (xr b i) (yr b j) : ℝ) : EReal) := by
  unfold refSq
  pointwise [ofBits_two, hx, hy]
  simp only [← EReal.coe_mul, Cert.KernelIdeal.Hand.coe_sum, ← EReal.coe_add, ← EReal.coe_sub]
  rfl

/-- The table the loop starts with. -/
def refTab : FVec Ideal S64x514x514 .f32 :=
  Host.dynamicUpdateSlice (broadcastInDim S64x514x514 ![] bcast_S_S64x514x514 (constant S_ .f32 0x7F800000#32))
    (broadcastInDim S64x1x1 ![] bcast_S_S64x1x1 (constant S_ .f32 0x00000000#32)) (starts 0 0 0) updateFits_S64x514x514_S64x1x1

theorem pre_c (X : Valuation τ sig (Elt Ideal)) : Reads (StableHlo.upto preOps X 23 main_c : IVec S_ 32) 0 := by
  after_reads_simp; exact reads_zero
theorem pre_c4 (X : Valuation τ sig (Elt Ideal)) : Reads (StableHlo.upto preOps X 23 main_c_4 : IVec S_ 32) 0 := by
  after_reads_simp; exact reads_zero
theorem pre_c5 (X : Valuation τ sig (Elt Ideal)) : Reads (StableHlo.upto preOps X 23 main_c_5 : IVec S_ 32) 0 := by
  after_reads_simp; exact reads_zero

set_option maxHeartbeats 2000000 in
theorem pre_tab (X : Valuation τ sig (Elt Ideal)) :
    (after preOps X main_v16_3 : FVec Ideal S64x514x514 .f32) = refTab := by
  after_reads_simp
  unfold refTab
  exact congrArg (fun s => Host.dynamicUpdateSlice _ _ s _) (starts_ext ((pre_c X).int (by omega) _) ((pre_c4 X).int (by omega) _)
    ((pre_c5 X).int (by omega) _))

/-- It holds 0 in the first cell of every problem and the top element elsewhere. -/
theorem refTab_apply (b : Fin 64) (p q : Fin 514) :
    refTab (ix3 b p q) = if p.val = 0 ∧ q.val = 0 then 0 else ⊤ := by
  unfold refTab
  have c1 := clamp_table (n := 514) (i := 0) (j := 0) updateFits_S64x514x514_S64x1x1.1 (by omega) (by omega)
  pointwise
  by_cases h : p.val = 0 ∧ q.val = 0
  · rw [if_pos h]
    exact dif_pos ⟨by rw [c1.1]; exact Nat.zero_le _, ⟨by rw [c1.2.1, h.1], by rw [c1.2.1, h.1]; omega⟩,
      by rw [c1.2.2, h.2], by rw [c1.2.2, h.2]; omega⟩
  · rw [if_neg h]
    refine (dif_neg ?_).trans (by simp [Ideal.ofBits, Ideal.ieee])
    rintro ⟨-, ⟨h1, h2⟩, h3, h4⟩
    rw [c1.2.1] at h1 h2
    rw [c1.2.2] at h3 h4
    omega

end Cert.ReferenceIdeal.Hand

end
-- ==== Proof.RefTab.lean ====
/-
  The reference's results: before the k-th trip the first k cells of every problem's table hold the recurrence and the
  rest the border's values; after the last trip the whole table does, and the loss is its corner cell.
-/
module

public import proofs.«01_k».proof.Proof.RefPre

@[expose] public section

noncomputable section

namespace Cert.ReferenceIdeal.Hand

open Cert.ReferenceIdeal Cert.ReferenceIdeal.Gen Cert.Table
open Idealize.ShloMosaic Idealize.ShloMosaic.TcCoe
open Idealize.ShloMosaic.StableHlo (after held launchContents)

/-- The table with its first `k` cells filled in. -/
def filled (d : ℕ → ℕ → EReal) (k p q : ℕ) : EReal :=
  if (1 ≤ p ∧ p ≤ 512) ∧ (1 ≤ q ∧ q ≤ 512) ∧ (p - 1) * 512 + (q - 1) < k then T d p q else if p = 0 ∧ q = 0 then 0 else ⊤

/-- The recurrence on the border: 0 in the first cell, the top element on the rest. -/
theorem T_border (d : ℕ → ℕ → EReal) {p q : ℕ} (h : p = 0 ∨ q = 0 ∨ 512 < p ∨ 512 < q) :
    T d p q = if p = 0 ∧ q = 0 then 0 else ⊤ := by
  cases p with
  | zero =>
    cases q with
    | zero => rw [T_zero_zero, if_pos ⟨rfl, rfl⟩]
    | succ j => rw [T_zero_succ, if_neg (by omega)]
  | succ i =>
    rw [if_neg (by omega)]
    cases q with
    | zero => rw [T_succ_zero]
    | succ j => exact T_off d (by unfold Band; omega)

/-- On the border and on the cells already filled the table is the recurrence. -/
theorem filled_done (d : ℕ → ℕ → EReal) {k p q : ℕ}
    (h : (p = 0 ∨ q = 0 ∨ 512 < p ∨ 512 < q) ∨ (p - 1) * 512 + (q - 1) < k) : filled d k p q = T d p q := by
  unfold filled
  by_cases hb : p = 0 ∨ q = 0 ∨ 512 < p ∨ 512 < q
  · rw [if_neg (by omega), T_border d hb]
  · rw [if_pos (by omega)]

theorem filled_zero (d : ℕ → ℕ → EReal) (p q : ℕ) : filled d 0 p q = if p = 0 ∧ q = 0 then 0 else ⊤ := by
  unfold filled
  rw [if_neg (by omega)]

theorem filled_succ (d : ℕ → ℕ → EReal) (k p q : ℕ) (hk : k < 262144) (h : ¬ (p = k / 512 + 1 ∧ q = k % 512 + 1)) :
    filled d (k + 1) p q = filled d k p q := by
  unfold filled
  refine if_congr (and_congr_right fun hp => and_congr_right fun hq => ?_) rfl rfl
  omega

variable (m : (ℓ : Loc nD τ sig) → Buf (Elt Ideal) ℓ) (c : Dev nD) (d : Fin 64 → ℕ → ℕ → EReal)
  (hd : ∀ (b : Fin 64) (i j : Fin 512),
    (after preOps (launchContents m c) main_v16_0 : FVec Ideal S64x512x512 .f32) (ix3 b i j) = d b i.val j.val)
include hd

/-- The table before the `k`-th trip. -/
theorem Wk_tab : ∀ k, k ≤ 262144 → ∀ (b : Fin 64) (p q : Fin 514),
    (Wk m k c main_v16_3 : FVec Ideal S64x514x514 .f32) (ix3 b p q) = filled (d b) k p.val q.val
  | 0, _, b, p, q => by
    rw [filled_zero, Wk_zero, pre_tab]
    exact refTab_apply b p q
  | k + 1, hk, b, p, q => by
    have hk' : k < 262144 := by omega
    have ih := Wk_tab k (by omega)
    have hi : k / 512 < 512 := by omega
    have hj : k % 512 < 512 := by omega
    rw [Wk_succ, body_tab (after condOps (Wk m k c)) k hk' (after preOps (launchContents m c) main_v16_0) (Wk m k c main_v16_3)
      ((cond_idx _).trans (Wk_idx m c k)) ((cond_dst _).trans (Wk_dst m c k)) (cond_tab _), cell_apply k hk']
    by_cases h : p.val = k / 512 + 1 ∧ q.val = k % 512 + 1
    · rw [if_pos h, h.1, h.2, filled_done (d b) (Or.inr (by omega)), T_succ_succ]
      refine if_congr Iff.rfl ?_ rfl
      refine (congrArg₂ (fun a b : EReal => a + b) (hd b _ _) (congrArg₂ min (congrArg₂ min (ih b _ _) (ih b _ _)) (ih b _ _))).trans ?_
      show d b (k / 512) (k % 512) + min (min (filled (d b) k (k / 512) (k % 512)) (filled (d b) k (k / 512) (k % 512 + 1)))
        (filled (d b) k (k / 512 + 1) (k % 512)) = _
      rw [add_comm, filled_done (d b) (by omega), filled_done (d b) (by omega), filled_done (d b) (by omega)]
    · rw [if_neg h, ih, filled_succ (d b) k p.val q.val hk' h]

/-- The table the reference returns. -/
theorem ref_tab (b : Fin 64) (p q : Fin 514) :
    (Wend m c main_v16_3 : FVec Ideal S64x514x514 .f32) (ix3 b p q) = T (d b) p.val q.val := by
  have e : (Wend m c main_v16_3 : FVec Ideal S64x514x514 .f32) = Wk m 262144 c main_v16_3 :=
    (post_tab _).trans (cond_tab _)
  rw [e, Wk_tab m c d hd 262144 (le_refl _)]
  exact filled_done (d b) (by omega)

/-- The losses the reference returns. -/
theorem ref_loss (b : Fin 64) : (Wend m c main_v18 : FVec Ideal S64 .f32) (ix1 b) = T (d b) 512 512 := by
  have e : (Wend m c main_v18 : FVec Ideal S64 .f32) = shapeCast S64 (extractStridedSlice S64x1x1 ![0, 512, 512]
      (after condOps (Wk m 262144 c) main_v16_3 : FVec Ideal S64x514x514 .f32) slices_S64x514x514_S64x1x1_0_512_512)
      shapeCasts_S64x1x1_S64 := by
    after_reads_simp
    rfl
  have e2 : (after condOps (Wk m 262144 c) main_v16_3 : FVec Ideal S64x514x514 .f32) = Wend m c main_v16_3 := (post_tab _).symm
  rw [e, e2]
  pointwise
  exact ref_tab m c d hd b 512 512

end Cert.ReferenceIdeal.Hand

end
-- ==== Proof.Finite.lean ====
/-
  The precondition read: where the predicate `finite` is all ones, every entry of the two arguments is a real number.
-/
module

public import proofs.«01_k».proof.Pre_finite
public import Idealize.ShloMosaic.PureOps.Ideal
public import Idealize.ShloMosaic.Lib.IdealHost
public import Idealize.ShloMosaic.Lib.Pointwise
public import Idealize.ShloMosaic.Lib.ReduceAll

@[expose] public section

noncomputable section

namespace Cert.Pre_finite.Hand

open Cert.Pre_finite
open Idealize.ShloMosaic

/-- The shape conditions of the predicate's operations. -/
theorem facts : Cert.Pre_finite.Facts where
  bcast_S_S64x512x8 := by decide
  reducesTo_S64x512x8_S_d0_1_2 := by decide
  h_S_ := by decide

instance : Subsingleton S_.Idx := ⟨fun _ _ => funext fun a => a.elim0⟩

/-- An extended real whose absolute value is below the top element is a real number. -/
theorem real_of_abs (x : EReal) (h : max x (-x) < ⊤) : ((x.toReal : ℝ) : EReal) = x := by
  refine EReal.coe_toReal (fun e => ?_) (fun e => ?_)
  · rw [e] at h; simp at h
  · rw [e] at h; simp at h

variable [Cert.Pre_finite.Facts]

/-- One half of the predicate: where it is 1 the array's entries are real. -/
theorem entry_lt (x : FVec Ideal S64x512x8 .f32) (z : S_.Idx)
    (h : Host.reduce IntOp.andi (cmpf .olt (Host.absf x)
      (broadcastInDim S64x512x8 ![] Facts.bcast_S_S64x512x8 (constant S_ .f32 0x7F800000#32))) (constantI S_ 1 1#1)
      Facts.reducesTo_S64x512x8_S_d0_1_2 Facts.h_S_ z = 1#1) (i : S64x512x8.Idx) : (((x i : EReal).toReal : ℝ) : EReal) = x i := by
  refine real_of_abs _ ?_
  have h1 := Host.reduce_andi_all _ _ _ _ z h i
  have h2 := (Ideal.cmp_olt_eq_one (max (x i) (-(x i))) (Ideal.ofBits .f32 0x7F800000#32)).1 h1
  simpa [Ideal.ofBits, Ideal.ieee] using h2

/-- Both arguments of a launch the predicate accepts are real at every entry. -/
theorem real_args (x y : FVec Ideal S64x512x8 .f32) (h : fn (F := Ideal) x y = fun _ => 1#1) (i : S64x512x8.Idx) :
    (((x i : EReal).toReal : ℝ) : EReal) = x i ∧ (((y i : EReal).toReal : ℝ) : EReal) = y i := by
  have h0 := congrFun h (fun a => a.elim0)
  obtain ⟨hx, hy⟩ := IntOp.andi_eq_one.1 h0
  exact ⟨entry_lt x _ hx i, entry_lt y _ hy i⟩

end Cert.Pre_finite.Hand

end
-- ==== Proof.lean ====
/-
  The certificate: the two programs run and leave the arguments and the semaphores as launched, and on finite inputs
  both return, as extended reals, the banded recurrence of the real squared distances.
-/
module

public import proofs.«01_k».proof.Defs
public import proofs.«01_k».proof.Proof.KernelRun
public import proofs.«01_k».proof.Proof.BitsKernelRun
public import proofs.«01_k».proof.Proof.RefRun
public import proofs.«01_k».proof.Proof.KernelVal
public import proofs.«01_k».proof.Proof.RefTab
public import proofs.«01_k».proof.Proof.Finite

@[expose] public section

noncomputable section

namespace Cert.Proof

open Idealize.ShloMosaic Idealize.ShloMosaic.TcCoe Idealize.SL.Sem
open Cert.KernelIdeal.Hand (distN kernel_v5 kernel_v7)
open Idealize.ShloMosaic.StableHlo (after launchContents)

/-- The real entries of an argument array. -/
def reals (x : FVec Ideal Cert.KernelIdeal.S64x512x8 .f32) (b : Fin 64) (i : Fin 512) (k : Fin 8) : ℝ := (x (ix3 b i k) : EReal).toReal

section Values

variable (x y : FVec Ideal Cert.KernelIdeal.S64x512x8 .f32)

/-- The losses both programs return. -/
def loss : FVec Ideal Cert.KernelIdeal.S64 .f32 := fun z => Table.T (distN (reals x) (reals y) (z 0)) 512 512
/-- The table both programs return. -/
def table : FVec Ideal Cert.KernelIdeal.S64x514x514 .f32 := fun z => Table.T (distN (reals x) (reals y) (z 0)) (z 1).val (z 2).val

variable (h : ∀ i, (((x i : EReal).toReal : ℝ) : EReal) = x i ∧ (((y i : EReal).toReal : ℝ) : EReal) = y i)
include h

/-- What the kernel's two results are. -/
theorem kernel_values (m : (ℓ : Loc Cert.KernelIdeal.nD Cert.KernelIdeal.τ Cert.KernelIdeal.sig) → Buf (Elt Ideal) ℓ)
    (c : Dev Cert.KernelIdeal.nD)
    (hx : m ((c.tc : Thread Cert.KernelIdeal.nD Cert.KernelIdeal.τ).loc Cert.KernelIdeal.main_arg0) = x)
    (hy : m ((c.tc : Thread Cert.KernelIdeal.nD Cert.KernelIdeal.τ).loc Cert.KernelIdeal.main_arg1) = y) :
    Cert.KernelIdeal.Gen.V5 m (Cert.KernelIdeal.Hand.outs m) c Cert.KernelIdeal.main_v7 = loss x y
      ∧ Cert.KernelIdeal.Gen.V5 m (Cert.KernelIdeal.Hand.outs m) c Cert.KernelIdeal.main_v5 = table x y := by
  have hX : ∀ b i k, (m ((c.tc : Thread Cert.KernelIdeal.nD Cert.KernelIdeal.τ).loc Cert.KernelIdeal.main_arg0) :
      FVec Ideal Cert.KernelIdeal.S64x512x8 .f32) (ix3 b i k) = ((reals x b i k : ℝ) : EReal) := fun b i k => by
    rw [hx]; exact (h _).1.symm
  have hY : ∀ b i k, (m ((c.tc : Thread Cert.KernelIdeal.nD Cert.KernelIdeal.τ).loc Cert.KernelIdeal.main_arg1) :
      FVec Ideal Cert.KernelIdeal.S64x512x8 .f32) (ix3 b i k) = ((reals y b i k : ℝ) : EReal) := fun b i k => by
    rw [hy]; exact (h _).2.symm
  constructor
  · funext z
    rw [eq_ix1 z]
    exact kernel_v7 m c (reals x) (reals y) hX hY (z 0)
  · funext z
    rw [eq_ix3 z]
    exact kernel_v5 m c (reals x) (reals y) hX hY (z 0) (z 1) (z 2)

/-- What the reference's two results are. -/
theorem ref_values (m : (ℓ : Loc Cert.ReferenceIdeal.nD Cert.ReferenceIdeal.τ Cert.ReferenceIdeal.sig) → Buf (Elt Ideal) ℓ)
    (c : Dev Cert.ReferenceIdeal.nD)
    (hx : m ((c.tc : Thread Cert.ReferenceIdeal.nD Cert.ReferenceIdeal.τ).loc Cert.ReferenceIdeal.main_arg0) = x)
    (hy : m ((c.tc : Thread Cert.ReferenceIdeal.nD Cert.ReferenceIdeal.τ).loc Cert.ReferenceIdeal.main_arg1) = y) :
    Cert.ReferenceIdeal.Hand.Wend m c Cert.ReferenceIdeal.main_v18 = loss x y
      ∧ Cert.ReferenceIdeal.Hand.Wend m c Cert.ReferenceIdeal.main_v16_3 = table x y := by
  have hd : ∀ (b : Fin 64) (i j : Fin 512),
      (after Cert.ReferenceIdeal.Hand.preOps (launchContents m c) Cert.ReferenceIdeal.main_v16_0 :
        FVec Ideal Cert.ReferenceIdeal.S64x512x512 .f32) (ix3 b i j) = distN (reals x) (reals y) b i.val j.val := fun b i j => by
    rw [Cert.ReferenceIdeal.Hand.pre_dst]
    unfold distN
    rw [dif_pos ⟨i.isLt, j.isLt⟩]
    refine Cert.ReferenceIdeal.Hand.refSq_apply _ _ (reals x) (reals y) (fun b i k => ?_) (fun b i k => ?_) b i j
    · exact (congrFun hx _).trans (h _).1.symm
    · exact (congrFun hy _).trans (h _).2.symm
  constructor
  · funext z
    rw [eq_ix1 z]
    exact Cert.ReferenceIdeal.Hand.ref_loss m c (distN (reals x) (reals y)) hd (z 0)
  · funext z
    rw [eq_ix3 z]
    exact Cert.ReferenceIdeal.Hand.ref_tab m c (distN (reals x) (reals y)) hd (z 0) (z 1) (z 2)

end Values

/-- Kernel and reference return the same on finite inputs. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hp hm
  have hr := fun c => @Cert.Pre_finite.Hand.real_args Cert.Pre_finite.Hand.facts _ _ (hp c)
  refine ⟨fun c => loss (m (c.tc.loc Cert.KernelIdeal.main_arg0)) (m (c.tc.loc Cert.KernelIdeal.main_arg1)),
    fun c => table (m (c.tc.loc Cert.KernelIdeal.main_arg0)) (m (c.tc.loc Cert.KernelIdeal.main_arg1)), ?_, ?_⟩
  · refine θ_run_mono (Cert.KernelIdeal.Hand.run_main m g) fun r hq c => ?_
    obtain ⟨h7, h5, h0, h1⟩ := hq.1 c
    have hv := kernel_values _ _ (hr c) m c rfl rfl
    exact ⟨h7.trans hv.1, h5.trans hv.2, h0, h1⟩
  · refine θ_run_mono (Cert.ReferenceIdeal.Hand.run_main m' g') fun r hq c => ?_
    obtain ⟨h7, h5, h0, h1⟩ := hq.1 c
    have hv := ref_values _ _ (hr c) m' c (hm c).1 (hm c).2
    exact ⟨h7.trans hv.1, h5.trans hv.2, h0, h1⟩

/-- Everything claimed. -/
theorem claim : Cert.Claim :=
  ⟨Cert.Kernel.Gen.facts, Cert.KernelIdeal.Gen.facts, Cert.ReferenceIdeal.Gen.facts, Cert.Pre_finite.Hand.facts,
    fun m g _ => Cert.Kernel.Hand.frame m g, fun m g _ => Cert.KernelIdeal.Hand.frame m g,
    fun m g _ => Cert.KernelIdeal.Hand.frame m g, fun m g _ => Cert.ReferenceIdeal.Hand.frame m g,
    fun m g _ => Cert.ReferenceIdeal.Hand.frame m g, trivial, algebraic⟩

end Cert.Proof

end
